-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_sqrt_d" .f32 0x3E13CD3A#32 (((Real.sqrt 48)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v14_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v14_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256x64x64x3 : Shape := ⟨4, ![256, 64, 64, 3]⟩
abbrev S256x48 : Shape := ⟨2, ![256, 48]⟩
abbrev S256 : Shape := ⟨1, ![256]⟩
abbrev S6x40 : Shape := ⟨2, ![6, 40]⟩
abbrev S6 : Shape := ⟨1, ![6]⟩
abbrev S15x6 : Shape := ⟨2, ![15, 6]⟩
abbrev S15 : Shape := ⟨1, ![15]⟩
abbrev S_ : Shape := ⟨0, ![]⟩

class Facts : Prop where
  bcast_S_S256x64x64x3 : S_.BroadcastsInDim S256x64x64x3 (![] : Fin 0 → Fin S256x64x64x3.rank)
  bcast_S_S256x48 : S_.BroadcastsInDim S256x48 (![] : Fin 0 → Fin S256x48.rank)
  bcast_S_S256 : S_.BroadcastsInDim S256 (![] : Fin 0 → Fin S256.rank)
  bcast_S_S6x40 : S_.BroadcastsInDim S6x40 (![] : Fin 0 → Fin S6x40.rank)
  bcast_S_S6 : S_.BroadcastsInDim S6 (![] : Fin 0 → Fin S6.rank)
  bcast_S_S15x6 : S_.BroadcastsInDim S15x6 (![] : Fin 0 → Fin S15x6.rank)
  bcast_S_S15 : S_.BroadcastsInDim S15 (![] : Fin 0 → Fin S15.rank)

variable [Facts]

def fn_part1 {F : FTy → Type} [FloatOps F] (main_arg6 : FVec F S6 .f32) (main_arg7 : FVec F S15x6 .f32) (main_arg8 : FVec F S15 .f32) (main_v2 : IVec S256x64x64x3 1) (main_v5 : IVec S256x48 1) (main_v8 : IVec S256 1) (main_v11 : IVec S256x48 1) (main_v14 : IVec S256 1) (main_v17 : IVec S6x40 1) : IVec S256x64x64x3 1 × IVec S256x48 1 × IVec S256 1 × IVec S256x48 1 × IVec S256 1 × IVec S6x40 1 × IVec S6 1 × IVec S15x6 1 × IVec S15 1 :=
  let main_v18 : FVec F S6 .f32 := Host.absf main_arg6
  let main_cst_5 : FVec F S_ .f32 := constant S_ .f32 0x7F800000#32
  let main_v19 : FVec F S6 .f32 := broadcastInDim S6 ![] bcast_S_S6 main_cst_5
  let main_v20 : IVec S6 1 := cmpf .olt main_v18 main_v19
  let main_v21 : FVec F S15x6 .f32 := Host.absf main_arg7
  let main_cst_6 : FVec F S_ .f32 := constant S_ .f32 0x7F800000#32
  let main_v22 : FVec F S15x6 .f32 := broadcastInDim S15x6 ![] bcast_S_S15x6 main_cst_6
  let main_v23 : IVec S15x6 1 := cmpf .olt main_v21 main_v22
  let main_v24 : FVec F S15 .f32 := Host.absf main_arg8
  let main_cst_7 : FVec F S_ .f32 := constant S_ .f32 0x7F800000#32
  let main_v25 : FVec F S15 .f32 := broadcastInDim S15 ![] bcast_S_S15 main_cst_7
  let main_v26 : IVec S15 1 := cmpf .olt main_v24 main_v25
  (main_v2, main_v5, main_v8, main_v11, main_v14, main_v17, main_v20, main_v23, main_v26)

def fn {F : FTy → Type} [FloatOps F] (main_arg0 : FVec F S256x64x64x3 .f32) (main_arg1 : FVec F S256x48 .f32) (main_arg2 : FVec F S256 .f32) (main_arg3 : FVec F S256x48 .f32) (main_arg4 : FVec F S256 .f32) (main_arg5 : FVec F S6x40 .f32) (main_arg6 : FVec F S6 .f32) (main_arg7 : FVec F S15x6 .f32) (main_arg8 : FVec F S15 .f32) : IVec S256x64x64x3 1 × IVec S256x48 1 × IVec S256 1 × IVec S256x48 1 × IVec S256 1 × IVec S6x40 1 × IVec S6 1 × IVec S15x6 1 × IVec S15 1 :=
  let main_v0 : FVec F S256x64x64x3 .f32 := Host.absf main_arg0
  let main_cst : FVec F S_ .f32 := constant S_ .f32 0x7F800000#32
  let main_v1 : FVec F S256x64x64x3 .f32 := broadcastInDim S256x64x64x3 ![] bcast_S_S256x64x64x3 main_cst
  let main_v2 : IVec S256x64x64x3 1 := cmpf .olt main_v0 main_v1
  let main_v3 : FVec F S256x48 .f32 := Host.absf main_arg1
  let main_cst_0 : FVec F S_ .f32 := constant S_ .f32 0x7F800000#32
  let main_v4 : FVec F S256x48 .f32 := broadcastInDim S256x48 ![] bcast_S_S256x48 main_cst_0
  let main_v5 : IVec S256x48 1 := cmpf .olt main_v3 main_v4
  let main_v6 : FVec F S256 .f32 := Host.absf main_arg2
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S256x48 .f32 := Host.absf main_arg3
  let main_cst_2 : FVec F S_ .f32 := constant S_ .f32 0x7F800000#32
  let main_v10 : FVec F S256x48 .f32 := broadcastInDim S256x48 ![] bcast_S_S256x48 main_cst_2
  let main_v11 : IVec S256x48 1 := cmpf .olt main_v9 main_v10
  let main_v12 : FVec F S256 .f32 := Host.absf main_arg4
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S6x40 .f32 := Host.absf main_arg5
  let main_cst_4 : FVec F S_ .f32 := constant S_ .f32 0x7F800000#32
  let main_v16 : FVec F S6x40 .f32 := broadcastInDim S6x40 ![] bcast_S_S6x40 main_cst_4
  let main_v17 : IVec S6x40 1 := cmpf .olt main_v15 main_v16
  fn_part1 (F := F) main_arg6 main_arg7 main_arg8 main_v2 main_v5 main_v8 main_v11 main_v14 main_v17
-- ==== Kernel.lean ====
abbrev S256x64x64x3 : Shape := ⟨4, ![256, 64, 64, 3]⟩
abbrev S256x48 : Shape := ⟨2, ![256, 48]⟩
abbrev S256 : Shape := ⟨1, ![256]⟩
abbrev S6x40 : Shape := ⟨2, ![6, 40]⟩
abbrev S6 : Shape := ⟨1, ![6]⟩
abbrev S15x6 : Shape := ⟨2, ![15, 6]⟩
abbrev S15 : Shape := ⟨1, ![15]⟩
abbrev S8x48 : Shape := ⟨2, ![8, 48]⟩
abbrev S192x192 : Shape := ⟨2, ![192, 192]⟩
abbrev S256x256 : Shape := ⟨2, ![256, 256]⟩
abbrev S64x3x64x256 : Shape := ⟨4, ![64, 3, 64, 256]⟩
abbrev S64x192x256 : Shape := ⟨3, ![64, 192, 256]⟩
abbrev S_ : Shape := ⟨0, ![]⟩
abbrev S64x256x192 : Shape := ⟨3, ![64, 256, 192]⟩
abbrev S8x192x256 : Shape := ⟨3, ![8, 192, 256]⟩
abbrev S8x256x192 : Shape := ⟨3, ![8, 256, 192]⟩
abbrev S1x192x256 : Shape := ⟨3, ![1, 192, 256]⟩
abbrev S192x256 : Shape := ⟨2, ![192, 256]⟩
abbrev S256x192 : Shape := ⟨2, ![256, 192]⟩
abbrev S1x256x192 : Shape := ⟨3, ![1, 256, 192]⟩
abbrev S48x256 : Shape := ⟨2, ![48, 256]⟩
abbrev S1x256 : Shape := ⟨2, ![1, 256]⟩
abbrev S256x1x256 : Shape := ⟨3, ![256, 1, 256]⟩
abbrev S8x256x1x256 : Shape := ⟨4, ![8, 256, 1, 256]⟩
abbrev S64x8x192 : Shape := ⟨3, ![64, 8, 192]⟩
abbrev S8x1x256 : Shape := ⟨3, ![8, 1, 256]⟩
abbrev S8x8x1x256 : Shape := ⟨4, ![8, 8, 1, 256]⟩
abbrev S64x1x192 : Shape := ⟨3, ![64, 1, 192]⟩
abbrev S64x192 : Shape := ⟨2, ![64, 192]⟩
abbrev S64x48 : Shape := ⟨2, ![64, 48]⟩
abbrev S256x1 : Shape := ⟨2, ![256, 1]⟩
abbrev S1x1x256 : Shape := ⟨3, ![1, 1, 256]⟩
abbrev S8x256 : Shape := ⟨2, ![8, 256]⟩
abbrev S8x1x1x256 : Shape := ⟨4, ![8, 1, 1, 256]⟩
abbrev S40x6 : Shape := ⟨2, ![40, 6]⟩
abbrev S1x6 : Shape := ⟨2, ![1, 6]⟩
abbrev S6x15 : Shape := ⟨2, ![6, 15]⟩
abbrev S1x15 : Shape := ⟨2, ![1, 15]⟩
abbrev S256x15 : Shape := ⟨2, ![256, 15]⟩
abbrev S1x256x1x256 : Shape := ⟨4, ![1, 256, 1, 256]⟩
abbrev S256x40 : Shape := ⟨2, ![256, 40]⟩
abbrev S256x6 : Shape := ⟨2, ![256, 6]⟩

abbrev nBuf : Space → Nat
  | .hbm => 31
  | .vmem => 25
  | .smem => 0
  | _ => 0

abbrev bufTy : (tb : Table) → Fin (tcTables nBuf tb) → BufTy
  | .hbm, ⟨0, _⟩ => ⟨S256x64x64x3, .f32⟩
  | .hbm, ⟨1, _⟩ => ⟨S256x48, .f32⟩
  | .hbm, ⟨2, _⟩ => ⟨S256, .f32⟩
  | .hbm, ⟨3, _⟩ => ⟨S256x48, .f32⟩
  | .hbm, ⟨4, _⟩ => ⟨S256, .f32⟩
  | .hbm, ⟨5, _⟩ => ⟨S6x40, .f32⟩
  | .hbm, ⟨6, _⟩ => ⟨S6, .f32⟩
  | .hbm, ⟨7, _⟩ => ⟨S15x6, .f32⟩
  | .hbm, ⟨8, _⟩ => ⟨S15, .f32⟩
  | .hbm, ⟨9, _⟩ => ⟨S8x48, .f32⟩
  | .hbm, ⟨10, _⟩ => ⟨S192x192, .f32⟩
  | .hbm, ⟨11, _⟩ => ⟨S256x256, .f32⟩
  | .hbm, ⟨12, _⟩ => ⟨S64x3x64x256, .f32⟩
  | .hbm, ⟨13, _⟩ => ⟨S64x192x256, .f32⟩
  | .hbm, ⟨14, _⟩ => ⟨S_, .f32⟩
  | .hbm, ⟨15, _⟩ => ⟨S8x48, .f32⟩
  | .hbm, ⟨16, _⟩ => ⟨S8x48, .f32⟩
  | .hbm, ⟨17, _⟩ => ⟨S64x256x192, .f32⟩
  | .hbm, ⟨18, _⟩ => ⟨S48x256, .f32⟩
  | .hbm, ⟨19, _⟩ => ⟨S1x256, .f32⟩
  | .hbm, ⟨20, _⟩ => ⟨S48x256, .f32⟩
  | .hbm, ⟨21, _⟩ => ⟨S1x256, .f32⟩
  | .hbm, ⟨22, _⟩ => ⟨S256x1x256, .f32⟩
  | .hbm, ⟨23, _⟩ => ⟨S8x256x1x256, .f32⟩
  | .hbm, ⟨24, _⟩ => ⟨S40x6, .f32⟩
  | .hbm, ⟨25, _⟩ => ⟨S1x6, .f32⟩
  | .hbm, ⟨26, _⟩ => ⟨S6x15, .f32⟩
  | .hbm, ⟨27, _⟩ => ⟨S1x15, .f32⟩
  | .hbm, ⟨28, _⟩ => ⟨S256x15, .f32⟩
  | .hbm, ⟨29, _⟩ => ⟨S1x256, .i32⟩
  | .hbm, ⟨30, _⟩ => ⟨S256, .i32⟩
  | .local _ .vmem, ⟨0, _⟩ => ⟨S8x192x256, .f32⟩
  | .local _ .vmem, ⟨1, _⟩ => ⟨S8x192x256, .f32⟩
  | .local _ .vmem, ⟨2, _⟩ => ⟨S192x192, .f32⟩
  | .local _ .vmem, ⟨3, _⟩ => ⟨S8x256x192, .f32⟩
  | .local _ .vmem, ⟨4, _⟩ => ⟨S8x256x192, .f32⟩
  | .local _ .vmem, ⟨5, _⟩ => ⟨S64x8x192, .f32⟩
  | .local _ .vmem, ⟨6, _⟩ => ⟨S64x8x192, .f32⟩
  | .local _ .vmem, ⟨7, _⟩ => ⟨S256x256, .f32⟩
  | .local _ .vmem, ⟨8, _⟩ => ⟨S48x256, .f32⟩
  | .local _ .vmem, ⟨9, _⟩ => ⟨S1x256, .f32⟩
  | .local _ .vmem, ⟨10, _⟩ => ⟨S48x256, .f32⟩
  | .local _ .vmem, ⟨11, _⟩ => ⟨S1x256, .f32⟩
  | .local _ .vmem, ⟨12, _⟩ => ⟨S8x48, .f32⟩
  | .local _ .vmem, ⟨13, _⟩ => ⟨S8x1x256, .f32⟩
  | .local _ .vmem, ⟨14, _⟩ => ⟨S8x1x256, .f32⟩
  | .local _ .vmem, ⟨15, _⟩ => ⟨S8x8x1x256, .f32⟩
  | .local _ .vmem, ⟨16, _⟩ => ⟨S8x8x1x256, .f32⟩
  | .local _ .vmem, ⟨17, _⟩ => ⟨S256x1x256, .f32⟩
  | .local _ .vmem, ⟨18, _⟩ => ⟨S8x256x1x256, .f32⟩
  | .local _ .vmem, ⟨19, _⟩ => ⟨S40x6, .f32⟩
  | .local _ .vmem, ⟨20, _⟩ => ⟨S1x6, .f32⟩
  | .local _ .vmem, ⟨21, _⟩ => ⟨S6x15, .f32⟩
  | .local _ .vmem, ⟨22, _⟩ => ⟨S1x15, .f32⟩
  | .local _ .vmem, ⟨23, _⟩ => ⟨S256x15, .f32⟩
  | .local _ .vmem, ⟨24, _⟩ => ⟨S1x256, .i32⟩
  | _, _ => ⟨S256x64x64x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_cst_1 : Ref sig .tc := ⟨.hbm, 11, rfl⟩
abbrev main_v0 : Ref sig .tc := ⟨.hbm, 12, rfl⟩
abbrev main_v1 : Ref sig .tc := ⟨.hbm, 13, rfl⟩
abbrev main_cst_2 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc1_sem8_0 : DmaSem sig := 15
abbrev cc1_sem8_1 : DmaSem sig := 16
abbrev cc2_sem0_0 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S64x8x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S48x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S48x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x48 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8x1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x8x1x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := .none

abbrev stage2_0 : Fin 1 → Memref sig .tc .vmem S256x1x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S8x256x1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S40x6 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x6 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S6x15 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x15 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S256x15 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x256 .i32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
-- ==== KernelIdeal.lean ====
variable {F : FTy → Type} [FloatOps F] [Named F]
def κ : String → Option EReal := fun
  | "inv_sqrt_d" => some (((Real.sqrt 48)⁻¹ : ℝ) : EReal)
  | _ => none
-- ==== ReferenceIdeal.lean ====
abbrev S256x64x64x3 : Shape := ⟨4, ![256, 64, 64, 3]⟩
abbrev S256x48 : Shape := ⟨2, ![256, 48]⟩
abbrev S256 : Shape := ⟨1, ![256]⟩
abbrev S6x40 : Shape := ⟨2, ![6, 40]⟩
abbrev S6 : Shape := ⟨1, ![6]⟩
abbrev S15x6 : Shape := ⟨2, ![15, 6]⟩
abbrev S15 : Shape := ⟨1, ![15]⟩
abbrev S256x256x48 : Shape := ⟨3, ![256, 256, 48]⟩
abbrev S48x256 : Shape := ⟨2, ![48, 256]⟩
abbrev S256x256x256 : Shape := ⟨3, ![256, 256, 256]⟩
abbrev S1x1x256 : Shape := ⟨3, ![1, 1, 256]⟩
abbrev S_ : Shape := ⟨0, ![]⟩
abbrev S256x256 : Shape := ⟨2, ![256, 256]⟩
abbrev S256x256x1 : Shape := ⟨3, ![256, 256, 1]⟩
abbrev S256x8 : Shape := ⟨2, ![256, 8]⟩
abbrev S256x8x1 : Shape := ⟨3, ![256, 8, 1]⟩
abbrev S1 : Shape := ⟨1, ![1]⟩
abbrev S1x1x1 : Shape := ⟨3, ![1, 1, 1]⟩
abbrev S256x8x48 : Shape := ⟨3, ![256, 8, 48]⟩
abbrev S256x8x16x3 : Shape := ⟨4, ![256, 8, 16, 3]⟩
abbrev S256x8x3 : Shape := ⟨3, ![256, 8, 3]⟩
abbrev S256x8x5 : Shape := ⟨3, ![256, 8, 5]⟩
abbrev S256x40 : Shape := ⟨2, ![256, 40]⟩
abbrev S40x6 : Shape := ⟨2, ![40, 6]⟩
abbrev S256x6 : Shape := ⟨2, ![256, 6]⟩
abbrev S1x6 : Shape := ⟨2, ![1, 6]⟩
abbrev S6x15 : Shape := ⟨2, ![6, 15]⟩
abbrev S256x15 : Shape := ⟨2, ![256, 15]⟩
abbrev S1x15 : Shape := ⟨2, ![1, 15]⟩
abbrev S256x1 : Shape := ⟨2, ![256, 1]⟩

abbrev nBuf : Space → Nat
  | .hbm => 162
  | .vmem => 0
  | .smem => 0
  | _ => 0

abbrev hbmTy0_0 (i : Nat) : BufTy := match i % 128 with
  | 0 => ⟨S256x64x64x3, .f32⟩
  | 1 => ⟨S256x48, .f32⟩
  | 2 => ⟨S256, .f32⟩
  | 3 => ⟨S256x48, .f32⟩
  | 4 => ⟨S256, .f32⟩
  | 5 => ⟨S6x40, .f32⟩
  | 6 => ⟨S6, .f32⟩
  | 7 => ⟨S15x6, .f32⟩
  | 8 => ⟨S15, .f32⟩
  | 9 => ⟨S256x256x48, .f32⟩
  | 10 => ⟨S48x256, .f32⟩
  | 11 => ⟨S256x256x256, .f32⟩
  | 12 => ⟨S1x1x256, .f32⟩
  | 13 => ⟨S256x256x256, .f32⟩
  | 14 => ⟨S256x256x256, .f32⟩
  | 15 => ⟨S48x256, .f32⟩
  | 16 => ⟨S256x256x256, .f32⟩
  | 17 => ⟨S1x1x256, .f32⟩
  | 18 => ⟨S256x256x256, .f32⟩
  | 19 => ⟨S256x256x256, .f32⟩
  | 20 => ⟨S256x256x256, .f32⟩
  | 21 => ⟨S_, .f32⟩
  | 22 => ⟨S_, .f32⟩
  | 23 => ⟨S256x256x256, .f32⟩
  | 24 => ⟨S256x256x256, .f32⟩
  | 25 => ⟨S_, .f32⟩
  | 26 => ⟨S256x256, .f32⟩
  | 27 => ⟨S_, .f32⟩
  | 28 => ⟨S256x256, .f32⟩
  | 29 => ⟨S256x256, .f32⟩
  | 30 => ⟨S256x256x1, .f32⟩
  | 31 => ⟨S256x256x256, .f32⟩
  | 32 => ⟨S256x256x256, .f32⟩
  | 33 => ⟨S256x256x256, .f32⟩
  | 34 => ⟨S_, .f32⟩
  | 35 => ⟨S256x256, .f32⟩
  | 36 => ⟨S256x256x1, .f32⟩
  | 37 => ⟨S256x256x256, .f32⟩
  | 38 => ⟨S256x256x256, .f32⟩
  | 39 => ⟨S_, .f32⟩
  | 40 => ⟨S256x256, .f32⟩
  | 41 => ⟨S256x8, .f32⟩
  | 42 => ⟨S256x8, .i32⟩
  | 43 => ⟨S_, .i32⟩
  | 44 => ⟨S_, .i32⟩
  | 45 => ⟨S256x8, .i32⟩
  | 46 => ⟨S256x8, .i32⟩
  | 47 => ⟨S256x8, .i32⟩
  | 48 => ⟨S_, .i32⟩
  | 49 => ⟨S256x8, .i32⟩
  | 50 => ⟨S256x8, .i1⟩
  | 51 => ⟨S256x8, .i32⟩
  | 52 => ⟨S256x8, .i32⟩
  | 53 => ⟨S_, .i32⟩
  | 54 => ⟨S256x8, .i32⟩
  | 55 => ⟨S256x8, .i1⟩
  | 56 => ⟨S256x8, .i1⟩
  | 57 => ⟨S_, .i32⟩
  | 58 => ⟨S256x8, .i32⟩
  | 59 => ⟨S256x8, .i32⟩
  | 60 => ⟨S256x8, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S256x8, .i32⟩
  | 68 => ⟨S256x8, .i32⟩
  | 69 => ⟨S_, .i32⟩
  | 70 => ⟨S256x8, .i32⟩
  | 71 => ⟨S256x8, .i1⟩
  | 72 => ⟨S_, .i32⟩
  | 73 => ⟨S256x8, .i32⟩
  | 74 => ⟨S256x8, .i1⟩
  | 75 => ⟨S_, .i32⟩
  | 76 => ⟨S_, .i1⟩
  | 77 => ⟨S256x8, .i1⟩
  | 78 => ⟨S256x8, .i1⟩
  | 79 => ⟨S256x8, .i1⟩
  | 80 => ⟨S256x8, .i32⟩
  | 81 => ⟨S256x8, .i32⟩
  | 82 => ⟨S256x8, .i32⟩
  | 83 => ⟨S256x8x1, .i32⟩
  | 84 => ⟨S_, .i32⟩
  | 85 => ⟨S256x8x1, .i32⟩
  | 86 => ⟨S256x8x1, .i1⟩
  | 87 => ⟨S_, .i32⟩
  | 88 => ⟨S256x8x1, .i32⟩
  | 89 => ⟨S256x8x1, .i32⟩
  | 90 => ⟨S256x8x1, .i32⟩
  | 91 => ⟨S1, .i32⟩
  | 92 => ⟨S_, .i32⟩
  | 93 => ⟨S256x8x1, .i32⟩
  | 94 => ⟨S256x8x1, .i1⟩
  | 95 => ⟨S1x1x1, .i32⟩
  | 96 => ⟨S256x8x1, .i32⟩
  | 97 => ⟨S256x8x1, .i1⟩
  | 98 => ⟨S256x8x1, .i1⟩
  | 99 => ⟨S_, .i1⟩
  | 100 => ⟨S256x8, .i1⟩
  | 101 => ⟨S256x8x48, .f32⟩
  | 102 => ⟨S256x8x48, .i1⟩
  | 103 => ⟨S_, .f32⟩
  | 104 => ⟨S256x8x48, .f32⟩
  | 105 => ⟨S256x8x48, .f32⟩
  | 106 => ⟨S256x8x16x3, .f32⟩
  | 107 => ⟨S_, .f32⟩
  | 108 => ⟨S256x8x3, .f32⟩
  | 109 => ⟨S_, .f32⟩
  | 110 => ⟨S256x8x3, .f32⟩
  | 111 => ⟨S256x8x3, .f32⟩
  | 112 => ⟨S_, .f32⟩
  | 113 => ⟨S256x8x3, .f32⟩
  | 114 => ⟨S256x8x3, .f32⟩
  | 115 => ⟨S256x8, .f32⟩
  | 116 => ⟨S_, .f32⟩
  | 117 => ⟨S256x8, .f32⟩
  | 118 => ⟨S256x8, .f32⟩
  | 119 => ⟨S_, .f32⟩
  | 120 => ⟨S256x8, .f32⟩
  | 121 => ⟨S256x8, .f32⟩
  | 122 => ⟨S256x8, .f32⟩
  | 123 => ⟨S_, .f32⟩
  | 124 => ⟨S256x8, .f32⟩
  | 125 => ⟨S256x8, .f32⟩
  | 126 => ⟨S_, .f32⟩
  | 127 => ⟨S256x8, .f32⟩
  | _ => ⟨S256x64x64x3, .f32⟩

abbrev hbmTy0_1 (i : Nat) : BufTy := match i % 128 with
  | 0 => ⟨S256x8, .f32⟩
  | 1 => ⟨S256x8x1, .f32⟩
  | 2 => ⟨S256x8x1, .f32⟩
  | 3 => ⟨S256x8x5, .f32⟩
  | 4 => ⟨S256x40, .f32⟩
  | 5 => ⟨S40x6, .f32⟩
  | 6 => ⟨S256x6, .f32⟩
  | 7 => ⟨S1x6, .f32⟩
  | 8 => ⟨S256x6, .f32⟩
  | 9 => ⟨S256x6, .f32⟩
  | 10 => ⟨S6x15, .f32⟩
  | 11 => ⟨S256x15, .f32⟩
  | 12 => ⟨S1x15, .f32⟩
  | 13 => ⟨S256x15, .f32⟩
  | 14 => ⟨S256x15, .f32⟩
  | 15 => ⟨S_, .f32⟩
  | 16 => ⟨S256, .f32⟩
  | 17 => ⟨S_, .f32⟩
  | 18 => ⟨S256, .f32⟩
  | 19 => ⟨S256, .f32⟩
  | 20 => ⟨S256x1, .f32⟩
  | 21 => ⟨S256x15, .f32⟩
  | 22 => ⟨S256x15, .f32⟩
  | 23 => ⟨S256x15, .f32⟩
  | 24 => ⟨S_, .f32⟩
  | 25 => ⟨S256, .f32⟩
  | 26 => ⟨S256x1, .f32⟩
  | 27 => ⟨S256x15, .f32⟩
  | 28 => ⟨S256x15, .f32⟩
  | 29 => ⟨S256x15, .i32⟩
  | 30 => ⟨S_, .f32⟩
  | 31 => ⟨S_, .i32⟩
  | 32 => ⟨S256, .f32⟩
  | 33 => ⟨S256, .i32⟩
  | _ => ⟨S256x64x64x3, .f32⟩

abbrev hbmTy (i : Nat) : BufTy := match i / 128 with
  | 0 => hbmTy0_0 i
  | 1 => hbmTy0_1 i
  | _ => ⟨S256x64x64x3, .f32⟩

abbrev bufTy : (tb : Table) → Fin (tcTables nBuf tb) → BufTy
  | .hbm, ⟨i, _⟩ => hbmTy i
  | _, _ => ⟨S256x64x64x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_values : Ref sig .tc := ⟨.hbm, 41, rfl⟩
abbrev main_indices : Ref sig .tc := ⟨.hbm, 42, rfl⟩
abbrev main_c : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_c : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_0 : Ref sig .tc := ⟨.hbm, 57, rfl⟩
abbrev main_call0_v12 : Ref sig .tc := ⟨.hbm, 58, rfl⟩
abbrev main_call0_v13 : Ref sig .tc := ⟨.hbm, 59, rfl⟩
abbrev main_v27 : Ref sig .tc := ⟨.hbm, 60, rfl⟩
abbrev main_c_4 : Ref sig .tc := ⟨.hbm, 61, rfl⟩
abbrev main_call1_v0 : Ref sig .tc := ⟨.hbm, 62, rfl⟩
abbrev main_call1_c : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_c_1 : Ref sig .tc := ⟨.hbm, 69, rfl⟩
abbrev main_call1_v5 : Ref sig .tc := ⟨.hbm, 70, rfl⟩
abbrev main_call1_v6 : Ref sig .tc := ⟨.hbm, 71, rfl⟩
abbrev main_call1_c_2 : Ref sig .tc := ⟨.hbm, 72, rfl⟩
abbrev main_call1_v7 : Ref sig .tc := ⟨.hbm, 73, rfl⟩
abbrev main_call1_v8 : Ref sig .tc := ⟨.hbm, 74, rfl⟩
abbrev main_call1_c_3 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_v28 : Ref sig .tc := ⟨.hbm, 82, rfl⟩
abbrev main_v29 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_c_1 : Ref sig .tc := ⟨.hbm, 91, rfl⟩
abbrev main_call2_c_2 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_c_3 : Ref sig .tc := ⟨.hbm, 99, rfl⟩
abbrev main_call2_v11 : Ref sig .tc := ⟨.hbm, 100, rfl⟩
abbrev main_call2_v12 : Ref sig .tc := ⟨.hbm, 101, rfl⟩
abbrev main_call2_v13 : Ref sig .tc := ⟨.hbm, 102, rfl⟩
abbrev main_call2_cst : Ref sig .tc := ⟨.hbm, 103, rfl⟩
abbrev main_call2_v14 : Ref sig .tc := ⟨.hbm, 104, rfl⟩
abbrev main_v30 : Ref sig .tc := ⟨.hbm, 105, rfl⟩
abbrev main_v31 : Ref sig .tc := ⟨.hbm, 106, rfl⟩
abbrev main_cst_5 : Ref sig .tc := ⟨.hbm, 107, rfl⟩
abbrev main_v32 : Ref sig .tc := ⟨.hbm, 108, rfl⟩
abbrev main_cst_6 : Ref sig .tc := ⟨.hbm, 109, rfl⟩
abbrev main_v33 : Ref sig .tc := ⟨.hbm, 110, rfl⟩
abbrev main_v34 : Ref sig .tc := ⟨.hbm, 111, rfl⟩
abbrev main_cst_7 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_cst_8 : Ref sig .tc := ⟨.hbm, 116, rfl⟩
abbrev main_v38 : Ref sig .tc := ⟨.hbm, 117, rfl⟩
abbrev main_v39 : Ref sig .tc := ⟨.hbm, 118, rfl⟩
abbrev main_cst_9 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_cst_10 : Ref sig .tc := ⟨.hbm, 123, rfl⟩
abbrev main_v43 : Ref sig .tc := ⟨.hbm, 124, rfl⟩
abbrev main_v44 : Ref sig .tc := ⟨.hbm, 125, rfl⟩
abbrev main_cst_11 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_cst_12 : Ref sig .tc := ⟨.hbm, 143, rfl⟩
abbrev main_v61 : Ref sig .tc := ⟨.hbm, 144, rfl⟩
abbrev main_cst_13 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_cst_14 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_call3_v0 : Ref sig .tc := ⟨.hbm, 157, rfl⟩
abbrev main_call3_cst : Ref sig .tc := ⟨.hbm, 158, rfl⟩
abbrev main_call3_c : Ref sig .tc := ⟨.hbm, 159, rfl⟩
abbrev main_call3_v1_0 : Ref sig .tc := ⟨.hbm, 160, rfl⟩
abbrev main_v72 : Ref sig .tc := ⟨.hbm, 161, rfl⟩

abbrev nD : Nat := 1
abbrev τ : Topo := Topo.v7x

variable {F : FTy → Type} [FloatOps F]
-- ==== Proof.RefRun.lean ====
/- The reference program's run. Its @main is a list of 153 host operations, cut into windows; every weakly fair
   execution ends with each result buffer at the operations' composed term of the arguments' launch contents and
   with the arguments unchanged. The text follows the form that the generator gives other reference programs; this
   one ends in an operation of four operands (the argmax's reduction), which is handled here. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v49`, named. It packs its operands into a list of dependent pairs
    whose shapes a later argument's type mentions, so `simp` cannot rewrite an operand where it stands; applied by
    name, the operands are plain arguments, which the window lemmas below rewrite before the name unfolds. -/
def fn_main_v49 : (main_v47 : Ref sig .tc).ty.Contents (Elt F) → (main_v48 : Ref sig .tc).ty.Contents (Elt F) → (main_v36 : Ref sig .tc).ty.Contents (Elt F) → (main_v49 : Ref sig .tc).ty.Contents (Elt F) :=
  (fun u0 u1 u2 => (concatenate S256x8x5 2 [⟨S256x8x1, (u0 : (⟨S256x8x1, .f32⟩ : BufTy).Contents (Elt F))⟩, ⟨S256x8x1, (u1 : (⟨S256x8x1, .f32⟩ : BufTy).Contents (Elt F))⟩, ⟨S256x8x3, (u2 : (⟨S256x8x3, .f32⟩ : BufTy).Contents (Elt F))⟩] concatenates_S256x8x1_S256x8x1_S256x8x3_S256x8x5_d2 : (⟨S256x8x5, .f32⟩ : BufTy).Contents (Elt F)))

/-- @main's operations 1 … 30 of 153 (window `main_part0`). -/
abbrev ops_part0_0 : List (HloOp τ sig (Elt F)) :=
  [ reshape main_arg0 main_v0 (rfl : (.f32 : EltTy) = .f32) shapeCasts_S256x64x64x3_S256x256x48,
    unary main_arg1 main_v1 ((transpose S48x256 [1, 0] · transposes_S256x48_S48x256_1_0) : (⟨S256x48, .f32⟩ : BufTy).Contents (Elt F) → (⟨S48x256, .f32⟩ : BufTy).Contents (Elt F)),
    binary main_v0 main_v1 main_v2 ((fun l r => Host.dotGeneral dot_S256x256x48_S48x256_S256x256x256_2_0_01_1_n_n none l r) : (⟨S256x256x48, .f32⟩ : BufTy).Contents (Elt F) → (⟨S48x256, .f32⟩ : BufTy).Contents (Elt F) → (⟨S256x256x256, .f32⟩ : BufTy).Contents (Elt F)),
    unary main_arg2 main_v3 (broadcastInDim S1x1x256 ![2] bcast_S256_S1x1x256_2 : (⟨S256, .f32⟩ : BufTy).Contents (Elt F) → (⟨S1x1x256, .f32⟩ : BufTy).Contents (Elt F)),
    unary main_v3 main_v4 (broadcastInDim S256x256x256 ![0, 1, 2] bcast_S1x1x256_S256x256x256_0_1_2 : (⟨S1x1x256, .f32⟩ : BufTy).Contents (Elt F) → (⟨S256x256x256, .f32⟩ : BufTy).Contents (Elt F)),
    binary main_v2 main_v4 main_v5 (addf : (⟨S256x256x256, .f32⟩ : BufTy).Contents (Elt F) → (⟨S256x256x256, .f32⟩ : BufTy).Contents (Elt F) → (⟨S256x256x256, .f32⟩ : BufTy).Contents (Elt F)),
    unary main_arg3 main_v6 ((transpose S48x256 [1, 0] · transposes_S256x48_S48x256_1_0) : (⟨S256x48, .f32⟩ : BufTy).Contents (Elt F) → (⟨S48x256, .f32⟩ : BufTy).Contents (Elt F)),
    binary main_v0 main_v6 main_v7 ((fun l r => Host.dotGeneral dot_S256x256x48_S48x256_S256x256x256_2_0_01_1_n_n none l r) : (⟨S256x256x48, .f32⟩ : BufTy).Contents (Elt F) → (⟨S48x256, .f32⟩ : BufTy).Contents (Elt F) → (⟨S256x256x256, .f32⟩ : BufTy).Contents (Elt F)),
    unary main_arg4 main_v8 (broadcastInDim S1x1x256 ![2] bcast_S256_S1x1x256_2 : (⟨S256, .f32⟩ : BufTy).Contents (Elt F) → (⟨S1x1x256, .f32⟩ : BufTy).Contents (Elt F)),
    unary main_v8 main_v9 (broadcastInDim S256x256x256 ![0, 1, 2] bcast_S1x1x256_S256x256x256_0_1_2 : (⟨S1x1x256, .f32⟩ : BufTy).Contents (Elt F) → (⟨S256x256x256, .f32⟩ : BufTy).Contents (Elt F)),
    binary main_v7 main_v9 main_v10 (addf : (⟨S256x256x256, .f32⟩ : BufTy).Contents (Elt F) → (⟨S256x256x256, .f32⟩ : BufTy).Contents (Elt F) → (⟨S256x256x256, .f32⟩ : BufTy).Contents (Elt F)),
    binary main_v5 main_v10 main_v11 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)),
    nullary main_cst (constant S_ .f32 0x42400000#32),
    unary main_cst main_v12 (Host.sqrt : (⟨S_, .f32⟩ : BufTy).Contents (Elt F) → (⟨S_, .f32⟩ : BufTy).Contents (Elt F)),
    unary main_v12 main_v13 (broadcastInDim S256x256x256 ![] bcast_S_S256x256x256 : (⟨S_, .f32⟩ : BufTy).Contents (Elt F) → (⟨S256x256x256, .f32⟩ : BufTy).Contents (Elt F)),
    binary main_v11 main_v13 main_v14 (Host.divf : (⟨S256x256x256, .f32⟩ : BufTy).Contents (Elt F) → (⟨S256x256x256, .f32⟩ : BufTy).Contents (Elt F) → (⟨S256x256x256, .f32⟩ : BufTy).Contents (Elt F)),
    nullary main_cst_0 (constant S_ .f32 0xFF800000#32),
    binary main_v14 main_cst_0 main_v15 ((fun x v => Host.reduce FloatOps.maximumf x v reducesTo_S256x256x256_S256x256_d2 h_S_) : (⟨S256x256x256, .f32⟩ : BufTy).Contents (Elt F) → (⟨S_, .f32⟩ : BufTy).Contents (Elt F) → (⟨S256x256, .f32⟩ : BufTy).Contents (Elt F)),
    nullary main_cst_1 (constant S_ .f32 0xFF800000#32),
    unary main_cst_1 main_v16 (broadcastInDim S256x256 ![] bcast_S_S256x256 : (⟨S_, .f32⟩ : BufTy).Contents (Elt F) → (⟨S256x256, .f32⟩ : BufTy).Contents (Elt F)),
    binary main_v16 main_v15 main_v17 (maximumf : (⟨S256x256, .f32⟩ : BufTy).Contents (Elt F) → (⟨S256x256, .f32⟩ : BufTy).Contents (Elt F) → (⟨S256x256, .f32⟩ : BufTy).Contents (Elt F)),
    unary main_v17 main_v18 (broadcastInDim S256x256x1 ![0, 1] bcast_S256x256_S256x256x1_0_1 : (⟨S256x256, .f32⟩ : BufTy).Contents (Elt F) → (⟨S256x256x1, .f32⟩ : BufTy).Contents (Elt F)),
    unary main_v18 main_v19 (broadcastInDim S256x256x256 ![0, 1, 2] bcast_S256x256x1_S256x256x256_0_1_2 : (⟨S256x256x1, .f32⟩ : BufTy).Contents (Elt F) → (⟨S256x256x256, .f32⟩ : BufTy).Contents (Elt F)),
    binary main_v14 main_v19 main_v20 (subf : (⟨S256x256x256, .f32⟩ : BufTy).Contents (Elt F) → (⟨S256x256x256, .f32⟩ : BufTy).Contents (Elt F) → (⟨S256x256x256, .f32⟩ : BufTy).Contents (Elt F)),
    unary main_v20 main_v21 (Host.exp : (⟨S256x256x256, .f32⟩ : BufTy).Contents (Elt F) → (⟨S256x256x256, .f32⟩ : BufTy).Contents (Elt F)),
    nullary main_cst_2 (constant S_ .f32 0x00000000#32),
    binary main_v21 main_cst_2 main_v22 ((fun x v => Host.reduceAdd x v reducesTo_S256x256x256_S256x256_d2 h_S_) : (⟨S256x256x256, .f32⟩ : BufTy).Contents (Elt F) → (⟨S_, .f32⟩ : BufTy).Contents (Elt F) → (⟨S256x256, .f32⟩ : BufTy).Contents (Elt F)),
    unary main_v22 main_v23 (broadcastInDim S256x256x1 ![0, 1] bcast_S256x256_S256x256x1_0_1 : (⟨S256x256, .f32⟩ : BufTy).Contents (Elt F) → (⟨S256x256x1, .f32⟩ : BufTy).Contents (Elt F)),
    unary main_v23 main_v24 (broadcastInDim S256x256x256 ![0, 1, 2] bcast_S256x256x1_S256x256x256_0_1_2 : (⟨S256x256x1, .f32⟩ : BufTy).Contents (Elt F) → (⟨S256x256x256, .f32⟩ : BufTy).Contents (Elt F)),
    binary main_v21 main_v24 main_v25 (Host.divf : (⟨S256x256x256, .f32⟩ : BufTy).Contents (Elt F) → (⟨S256x256x256, .f32⟩ : BufTy).Contents (Elt F) → (⟨S256x256x256, .f32⟩ : BufTy).Contents (Elt F)) ]

/-- @main's operations 31 … 60 of 153 (window `main_part0`). -/
abbrev ops_part0_1 : List (HloOp τ sig (Elt F)) :=
  [ nullary main_cst_3 (constant S_ .f32 0x00000000#32),
    binary main_v25 main_cst_3 main_v26 ((fun x v => Host.reduceAdd x v reducesTo_S256x256x256_S256x256_d1 h_S_) : (⟨S256x256x256, .f32⟩ : BufTy).Contents (Elt F) → (⟨S_, .f32⟩ : BufTy).Contents (Elt F) → (⟨S256x256, .f32⟩ : BufTy).Contents (Elt F)),
    unary main_v26 main_values ((fun x => (Host.topK S256x8 1 (FloatOps.cmpfTotal .gt) x sliceFits_S256x256_S256x8).1) : (⟨S256x256, .f32⟩ : BufTy).Contents (Elt F) → (⟨S256x8, .f32⟩ : BufTy).Contents (Elt F)),
    unary main_v26 main_indices ((fun x => (Host.topK S256x8 1 (FloatOps.cmpfTotal .gt) x sliceFits_S256x256_S256x8).2) : (⟨S256x256, .f32⟩ : BufTy).Contents (Elt F) → (⟨S256x8, .i32⟩ : BufTy).Contents (Elt F)),
    nullary main_c (constantI S_ 32 64#32),
    TRef.unary (TRef.of (T := ⟨S_, .i32⟩) main_c) (TRef.of (T := ⟨S_, .i32⟩) main_call0_v0) id,
    TRef.unary (TRef.of (T := ⟨S_, .i32⟩) main_call0_v0) (TRef.of (T := ⟨S256x8, .i32⟩) main_call0_v1) (broadcastInDim S256x8 ![] bcast_S_S256x8),
    TRef.binary (TRef.of (T := ⟨S256x8, .i32⟩) main_indices) (TRef.of (T := ⟨S256x8, .i32⟩) main_call0_v1) (TRef.of (T := ⟨S256x8, .i32⟩) main_call0_v2) Host.divsi,
    TRef.unary (TRef.of (T := ⟨S256x8, .i32⟩) main_indices) (TRef.of (T := ⟨S256x8, .i32⟩) main_call0_v3) signi,
    TRef.unary (TRef.of (T := ⟨S_, .i32⟩) main_call0_v0) (TRef.of (T := ⟨S_, .i32⟩) main_call0_v4) signi,
    TRef.unary (TRef.of (T := ⟨S_, .i32⟩) main_call0_v4) (TRef.of (T := ⟨S256x8, .i32⟩) main_call0_v5) (broadcastInDim S256x8 ![] bcast_S_S256x8),
    TRef.binary (TRef.of (T := ⟨S256x8, .i32⟩) main_call0_v3) (TRef.of (T := ⟨S256x8, .i32⟩) main_call0_v5) (TRef.of (T := ⟨S256x8, .i1⟩) main_call0_v6) (cmpi .ne),
    TRef.unary (TRef.of (T := ⟨S_, .i32⟩) main_call0_v0) (TRef.of (T := ⟨S256x8, .i32⟩) main_call0_v7) (broadcastInDim S256x8 ![] bcast_S_S256x8),
    TRef.binary (TRef.of (T := ⟨S256x8, .i32⟩) main_indices) (TRef.of (T := ⟨S256x8, .i32⟩) main_call0_v7) (TRef.of (T := ⟨S256x8, .i32⟩) main_call0_v8) Host.remsi,
    TRef.nullary (TRef.of (T := ⟨S_, .i32⟩) main_call0_c) (constantI S_ 32 0#32),
    TRef.unary (TRef.of (T := ⟨S_, .i32⟩) main_call0_c) (TRef.of (T := ⟨S256x8, .i32⟩) main_call0_v9) (broadcastInDim S256x8 ![] bcast_S_S256x8),
    TRef.binary (TRef.of (T := ⟨S256x8, .i32⟩) main_call0_v8) (TRef.of (T := ⟨S256x8, .i32⟩) main_call0_v9) (TRef.of (T := ⟨S256x8, .i1⟩) main_call0_v10) (cmpi .ne),
    TRef.binary (TRef.of (T := ⟨S256x8, .i1⟩) main_call0_v6) (TRef.of (T := ⟨S256x8, .i1⟩) main_call0_v10) (TRef.of (T := ⟨S256x8, .i1⟩) main_call0_v11) andi,
    TRef.nullary (TRef.of (T := ⟨S_, .i32⟩) main_call0_c_0) (constantI S_ 32 1#32),
    TRef.unary (TRef.of (T := ⟨S_, .i32⟩) main_call0_c_0) (TRef.of (T := ⟨S256x8, .i32⟩) main_call0_v12) (broadcastInDim S256x8 ![] bcast_S_S256x8),
    TRef.binary (TRef.of (T := ⟨S256x8, .i32⟩) main_call0_v2) (TRef.of (T := ⟨S256x8, .i32⟩) main_call0_v12) (TRef.of (T := ⟨S256x8, .i32⟩) main_call0_v13) subi,
    TRef.ternary (TRef.of (T := ⟨S256x8, .i1⟩) main_call0_v11) (TRef.of (T := ⟨S256x8, .i32⟩) main_call0_v13) (TRef.of (T := ⟨S256x8, .i32⟩) main_call0_v2) (TRef.of (T := ⟨S256x8, .i32⟩) main_v27) select,
    nullary main_c_4 (constantI S_ 32 64#32),
    TRef.unary (TRef.of (T := ⟨S_, .i32⟩) main_c_4) (TRef.of (T := ⟨S_, .i32⟩) main_call1_v0) id,
    TRef.nullary (TRef.of (T := ⟨S_, .i32⟩) main_call1_c) (constantI S_ 32 0#32),
    TRef.binary (TRef.of (T := ⟨S_, .i32⟩) main_call1_v0) (TRef.of (T := ⟨S_, .i32⟩) main_call1_c) (TRef.of (T := ⟨S_, .i1⟩) main_call1_v1) (cmpi .eq),
    TRef.nullary (TRef.of (T := ⟨S_, .i32⟩) main_call1_c_0) (constantI S_ 32 1#32),
    TRef.ternary (TRef.of (T := ⟨S_, .i1⟩) main_call1_v1) (TRef.of (T := ⟨S_, .i32⟩) main_call1_c_0) (TRef.of (T := ⟨S_, .i32⟩) main_call1_v0) (TRef.of (T := ⟨S_, .i32⟩) main_call1_v2) select,
    TRef.unary (TRef.of (T := ⟨S_, .i32⟩) main_call1_v2) (TRef.of (T := ⟨S256x8, .i32⟩) main_call1_v3) (broadcastInDim S256x8 ![] bcast_S_S256x8),
    TRef.binary (TRef.of (T := ⟨S256x8, .i32⟩) main_indices) (TRef.of (T := ⟨S256x8, .i32⟩) main_call1_v3) (TRef.of (T := ⟨S256x8, .i32⟩) main_call1_v4) Host.remsi ]

/-- @main's operations 61 … 90 of 153 (window `main_part0`). -/
abbrev ops_part0_2 : List (HloOp τ sig (Elt F)) :=
  [ TRef.nullary (TRef.of (T := ⟨S_, .i32⟩) main_call1_c_1) (constantI S_ 32 0#32),
    TRef.unary (TRef.of (T := ⟨S_, .i32⟩) main_call1_c_1) (TRef.of (T := ⟨S256x8, .i32⟩) main_call1_v5) (broadcastInDim S256x8 ![] bcast_S_S256x8),
    TRef.binary (TRef.of (T := ⟨S256x8, .i32⟩) main_call1_v4) (TRef.of (T := ⟨S256x8, .i32⟩) main_call1_v5) (TRef.of (T := ⟨S256x8, .i1⟩) main_call1_v6) (cmpi .ne),
    TRef.nullary (TRef.of (T := ⟨S_, .i32⟩) main_call1_c_2) (constantI S_ 32 0#32),
    TRef.unary (TRef.of (T := ⟨S_, .i32⟩) main_call1_c_2) (TRef.of (T := ⟨S256x8, .i32⟩) main_call1_v7) (broadcastInDim S256x8 ![] bcast_S_S256x8),
    TRef.binary (TRef.of (T := ⟨S256x8, .i32⟩) main_call1_v4) (TRef.of (T := ⟨S256x8, .i32⟩) main_call1_v7) (TRef.of (T := ⟨S256x8, .i1⟩) main_call1_v8) (cmpi .slt),
    TRef.nullary (TRef.of (T := ⟨S_, .i32⟩) main_call1_c_3) (constantI S_ 32 0#32),
    TRef.binary (TRef.of (T := ⟨S_, .i32⟩) main_call1_v2) (TRef.of (T := ⟨S_, .i32⟩) main_call1_c_3) (TRef.of (T := ⟨S_, .i1⟩) main_call1_v9) (cmpi .slt),
    TRef.unary (TRef.of (T := ⟨S_, .i1⟩) main_call1_v9) (TRef.of (T := ⟨S256x8, .i1⟩) main_call1_v10) (broadcastInDim S256x8 ![] bcast_S_S256x8),
    TRef.binary (TRef.of (T := ⟨S256x8, .i1⟩) main_call1_v8) (TRef.of (T := ⟨S256x8, .i1⟩) main_call1_v10) (TRef.of (T := ⟨S256x8, .i1⟩) main_call1_v11) (cmpi .ne),
    TRef.binary (TRef.of (T := ⟨S256x8, .i1⟩) main_call1_v11) (TRef.of (T := ⟨S256x8, .i1⟩) main_call1_v6) (TRef.of (T := ⟨S256x8, .i1⟩) main_call1_v12) andi,
    TRef.unary (TRef.of (T := ⟨S_, .i32⟩) main_call1_v2) (TRef.of (T := ⟨S256x8, .i32⟩) main_call1_v13) (broadcastInDim S256x8 ![] bcast_S_S256x8),
    TRef.binary (TRef.of (T := ⟨S256x8, .i32⟩) main_call1_v4) (TRef.of (T := ⟨S256x8, .i32⟩) main_call1_v13) (TRef.of (T := ⟨S256x8, .i32⟩) main_call1_v14) addi,
    TRef.ternary (TRef.of (T := ⟨S256x8, .i1⟩) main_call1_v12) (TRef.of (T := ⟨S256x8, .i32⟩) main_call1_v14) (TRef.of (T := ⟨S256x8, .i32⟩) main_call1_v4) (TRef.of (T := ⟨S256x8, .i32⟩) main_v28) select,
    unary main_indices main_v29 (broadcastInDim S256x8x1 ![0, 1] bcast_S256x8_S256x8x1_0_1 : (⟨S256x8, .i32⟩ : BufTy).Contents (Elt F) → (⟨S256x8x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S256x8x1, .i32⟩) main_call2_v0) (broadcastInDim S256x8x1 ![] bcast_S_S256x8x1),
    TRef.binary (TRef.of (T := ⟨S256x8x1, .i32⟩) main_v29) (TRef.of (T := ⟨S256x8x1, .i32⟩) main_call2_v0) (TRef.of (T := ⟨S256x8x1, .i1⟩) main_call2_v1) (cmpi .slt),
    TRef.nullary (TRef.of (T := ⟨S_, .i32⟩) main_call2_c_0) (constantI S_ 32 256#32),
    TRef.unary (TRef.of (T := ⟨S_, .i32⟩) main_call2_c_0) (TRef.of (T := ⟨S256x8x1, .i32⟩) main_call2_v2) (broadcastInDim S256x8x1 ![] bcast_S_S256x8x1),
    TRef.binary (TRef.of (T := ⟨S256x8x1, .i32⟩) main_v29) (TRef.of (T := ⟨S256x8x1, .i32⟩) main_call2_v2) (TRef.of (T := ⟨S256x8x1, .i32⟩) main_call2_v3) addi,
    TRef.ternary (TRef.of (T := ⟨S256x8x1, .i1⟩) main_call2_v1) (TRef.of (T := ⟨S256x8x1, .i32⟩) main_call2_v3) (TRef.of (T := ⟨S256x8x1, .i32⟩) main_v29) (TRef.of (T := ⟨S256x8x1, .i32⟩) main_call2_v4) select,
    TRef.nullary (TRef.of (T := ⟨S1, .i32⟩) main_call2_c_1) (constantI S1 32 255#32),
    TRef.nullary (TRef.of (T := ⟨S_, .i32⟩) main_call2_c_2) (constantI S_ 32 0#32),
    TRef.unary (TRef.of (T := ⟨S_, .i32⟩) main_call2_c_2) (TRef.of (T := ⟨S256x8x1, .i32⟩) main_call2_v5) (broadcastInDim S256x8x1 ![] bcast_S_S256x8x1),
    TRef.binary (TRef.of (T := ⟨S256x8x1, .i32⟩) main_call2_v4) (TRef.of (T := ⟨S256x8x1, .i32⟩) main_call2_v5) (TRef.of (T := ⟨S256x8x1, .i1⟩) main_call2_v6) (cmpi .sge),
    TRef.unary (TRef.of (T := ⟨S1, .i32⟩) main_call2_c_1) (TRef.of (T := ⟨S1x1x1, .i32⟩) main_call2_v7) (broadcastInDim S1x1x1 ![2] bcast_S1_S1x1x1_2),
    TRef.unary (TRef.of (T := ⟨S1x1x1, .i32⟩) main_call2_v7) (TRef.of (T := ⟨S256x8x1, .i32⟩) main_call2_v8) (broadcastInDim S256x8x1 ![0, 1, 2] bcast_S1x1x1_S256x8x1_0_1_2),
    TRef.binary (TRef.of (T := ⟨S256x8x1, .i32⟩) main_call2_v4) (TRef.of (T := ⟨S256x8x1, .i32⟩) main_call2_v8) (TRef.of (T := ⟨S256x8x1, .i1⟩) main_call2_v9) (cmpi .sle),
    TRef.binary (TRef.of (T := ⟨S256x8x1, .i1⟩) main_call2_v6) (TRef.of (T := ⟨S256x8x1, .i1⟩) main_call2_v9) (TRef.of (T := ⟨S256x8x1, .i1⟩) main_call2_v10) andi ]

/-- @main's operations 91 … 117 of 153 (window `main_part0`). -/
abbrev ops_part0_3 : List (HloOp τ sig (Elt F)) :=
  [ TRef.nullary (TRef.of (T := ⟨S_, .i1⟩) main_call2_c_3) (constantI S_ 1 1#1),
    TRef.binary (TRef.of (T := ⟨S256x8x1, .i1⟩) main_call2_v10) (TRef.of (T := ⟨S_, .i1⟩) main_call2_c_3) (TRef.of (T := ⟨S256x8, .i1⟩) main_call2_v11) (fun x v => Host.reduce IntOp.andi x v reducesTo_S256x8x1_S256x8_d2 h_S_),
    TRef.binary (TRef.of (T := ⟨S256x256x48, .f32⟩) main_v0) (TRef.of (T := ⟨S256x8x1, .i32⟩) main_call2_v4) (TRef.of (T := ⟨S256x8x48, .f32⟩) main_call2_v12) (fun x i => Host.gather gather_S256x256x48_S256x8x1_S256x8x48_2_1_0_0_1_2_1148 x i),
    TRef.unary (TRef.of (T := ⟨S256x8, .i1⟩) main_call2_v11) (TRef.of (T := ⟨S256x8x48, .i1⟩) main_call2_v13) (broadcastInDim S256x8x48 ![0, 1] bcast_S256x8_S256x8x48_0_1),
    TRef.nullary (TRef.of (T := ⟨S_, .f32⟩) main_call2_cst) (constant S_ .f32 0x7FC00000#32),
    TRef.unary (TRef.of (T := ⟨S_, .f32⟩) main_call2_cst) (TRef.of (T := ⟨S256x8x48, .f32⟩) main_call2_v14) (broadcastInDim S256x8x48 ![] bcast_S_S256x8x48),
    TRef.ternary (TRef.of (T := ⟨S256x8x48, .i1⟩) main_call2_v13) (TRef.of (T := ⟨S256x8x48, .f32⟩) main_call2_v12) (TRef.of (T := ⟨S256x8x48, .f32⟩) main_call2_v14) (TRef.of (T := ⟨S256x8x48, .f32⟩) main_v30) select,
    reshape main_v30 main_v31 (rfl : (.f32 : EltTy) = .f32) shapeCasts_S256x8x48_S256x8x16x3,
    nullary main_cst_5 (constant S_ .f32 0x00000000#32),
    binary main_v31 main_cst_5 main_v32 ((fun x v => Host.reduceAdd x v reducesTo_S256x8x16x3_S256x8x3_d2 h_S_) : (⟨S256x8x16x3, .f32⟩ : BufTy).Contents (Elt F) → (⟨S_, .f32⟩ : BufTy).Contents (Elt F) → (⟨S256x8x3, .f32⟩ : BufTy).Contents (Elt F)),
    nullary main_cst_6 (constant S_ .f32 0x41800000#32),
    unary main_cst_6 main_v33 (broadcastInDim S256x8x3 ![] bcast_S_S256x8x3 : (⟨S_, .f32⟩ : BufTy).Contents (Elt F) → (⟨S256x8x3, .f32⟩ : BufTy).Contents (Elt F)),
    binary main_v32 main_v33 main_v34 (Host.divf : (⟨S256x8x3, .f32⟩ : BufTy).Contents (Elt F) → (⟨S256x8x3, .f32⟩ : BufTy).Contents (Elt F) → (⟨S256x8x3, .f32⟩ : BufTy).Contents (Elt F)),
    nullary main_cst_7 (constant S_ .f32 0x437F0000#32),
    unary main_cst_7 main_v35 (broadcastInDim S256x8x3 ![] bcast_S_S256x8x3 : (⟨S_, .f32⟩ : BufTy).Contents (Elt F) → (⟨S256x8x3, .f32⟩ : BufTy).Contents (Elt F)),
    binary main_v34 main_v35 main_v36 (Host.divf : (⟨S256x8x3, .f32⟩ : BufTy).Contents (Elt F) → (⟨S256x8x3, .f32⟩ : BufTy).Contents (Elt F) → (⟨S256x8x3, .f32⟩ : BufTy).Contents (Elt F)),
    unary main_v27 main_v37 (sitofp .f32 : (⟨S256x8, .i32⟩ : BufTy).Contents (Elt F) → (⟨S256x8, .f32⟩ : BufTy).Contents (Elt F)),
    nullary main_cst_8 (constant S_ .f32 0x40000000#32),
    unary main_cst_8 main_v38 (broadcastInDim S256x8 ![] bcast_S_S256x8 : (⟨S_, .f32⟩ : BufTy).Contents (Elt F) → (⟨S256x8, .f32⟩ : BufTy).Contents (Elt F)),
    binary main_v37 main_v38 main_v39 (addf : (⟨S256x8, .f32⟩ : BufTy).Contents (Elt F) → (⟨S256x8, .f32⟩ : BufTy).Contents (Elt F) → (⟨S256x8, .f32⟩ : BufTy).Contents (Elt F)),
    nullary main_cst_9 (constant S_ .f32 0x42800000#32),
    unary main_cst_9 main_v40 (broadcastInDim S256x8 ![] bcast_S_S256x8 : (⟨S_, .f32⟩ : BufTy).Contents (Elt F) → (⟨S256x8, .f32⟩ : BufTy).Contents (Elt F)),
    binary main_v39 main_v40 main_v41 (Host.divf : (⟨S256x8, .f32⟩ : BufTy).Contents (Elt F) → (⟨S256x8, .f32⟩ : BufTy).Contents (Elt F) → (⟨S256x8, .f32⟩ : BufTy).Contents (Elt F)),
    unary main_v28 main_v42 (sitofp .f32 : (⟨S256x8, .i32⟩ : BufTy).Contents (Elt F) → (⟨S256x8, .f32⟩ : BufTy).Contents (Elt F)),
    nullary main_cst_10 (constant S_ .f32 0x40000000#32),
    unary main_cst_10 main_v43 (broadcastInDim S256x8 ![] bcast_S_S256x8 : (⟨S_, .f32⟩ : BufTy).Contents (Elt F) → (⟨S256x8, .f32⟩ : BufTy).Contents (Elt F)),
    binary main_v42 main_v43 main_v44 (addf : (⟨S256x8, .f32⟩ : BufTy).Contents (Elt F) → (⟨S256x8, .f32⟩ : BufTy).Contents (Elt F) → (⟨S256x8, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3)))

/-- @main's operations 118 … 153 of 153 (window `main_part1`). -/
abbrev ops_part1 : List (HloOp τ sig (Elt F)) :=
  [ nullary main_cst_11 (constant S_ .f32 0x42800000#32),
    unary main_cst_11 main_v45 (broadcastInDim S256x8 ![] bcast_S_S256x8 : (⟨S_, .f32⟩ : BufTy).Contents (Elt F) → (⟨S256x8, .f32⟩ : BufTy).Contents (Elt F)),
    binary main_v44 main_v45 main_v46 (Host.divf : (⟨S256x8, .f32⟩ : BufTy).Contents (Elt F) → (⟨S256x8, .f32⟩ : BufTy).Contents (Elt F) → (⟨S256x8, .f32⟩ : BufTy).Contents (Elt F)),
    unary main_v41 main_v47 (broadcastInDim S256x8x1 ![0, 1] bcast_S256x8_S256x8x1_0_1 : (⟨S256x8, .f32⟩ : BufTy).Contents (Elt F) → (⟨S256x8x1, .f32⟩ : BufTy).Contents (Elt F)),
    unary main_v46 main_v48 (broadcastInDim S256x8x1 ![0, 1] bcast_S256x8_S256x8x1_0_1 : (⟨S256x8, .f32⟩ : BufTy).Contents (Elt F) → (⟨S256x8x1, .f32⟩ : BufTy).Contents (Elt F)),
    nary ![main_v47, main_v48, main_v36] main_v49 (fun u => fn_main_v49 (F := F) (u 0) (u 1) (u 2)),
    reshape main_v49 main_v50 (rfl : (.f32 : EltTy) = .f32) shapeCasts_S256x8x5_S256x40,
    unary main_arg5 main_v51 ((transpose S40x6 [1, 0] · transposes_S6x40_S40x6_1_0) : (⟨S6x40, .f32⟩ : BufTy).Contents (Elt F) → (⟨S40x6, .f32⟩ : BufTy).Contents (Elt F)),
    binary main_v50 main_v51 main_v52 ((fun l r => Host.dotGeneral dot_S256x40_S40x6_S256x6_1_0_0_1_n_n none l r) : (⟨S256x40, .f32⟩ : BufTy).Contents (Elt F) → (⟨S40x6, .f32⟩ : BufTy).Contents (Elt F) → (⟨S256x6, .f32⟩ : BufTy).Contents (Elt F)),
    unary main_arg6 main_v53 (broadcastInDim S1x6 ![1] bcast_S6_S1x6_1 : (⟨S6, .f32⟩ : BufTy).Contents (Elt F) → (⟨S1x6, .f32⟩ : BufTy).Contents (Elt F)),
    unary main_v53 main_v54 (broadcastInDim S256x6 ![0, 1] bcast_S1x6_S256x6_0_1 : (⟨S1x6, .f32⟩ : BufTy).Contents (Elt F) → (⟨S256x6, .f32⟩ : BufTy).Contents (Elt F)),
    binary main_v52 main_v54 main_v55 (addf : (⟨S256x6, .f32⟩ : BufTy).Contents (Elt F) → (⟨S256x6, .f32⟩ : BufTy).Contents (Elt F) → (⟨S256x6, .f32⟩ : BufTy).Contents (Elt F)),
    unary main_arg7 main_v56 ((transpose S6x15 [1, 0] · transposes_S15x6_S6x15_1_0) : (⟨S15x6, .f32⟩ : BufTy).Contents (Elt F) → (⟨S6x15, .f32⟩ : BufTy).Contents (Elt F)),
    binary main_v55 main_v56 main_v57 ((fun l r => Host.dotGeneral dot_S256x6_S6x15_S256x15_1_0_0_1_n_n none l r) : (⟨S256x6, .f32⟩ : BufTy).Contents (Elt F) → (⟨S6x15, .f32⟩ : BufTy).Contents (Elt F) → (⟨S256x15, .f32⟩ : BufTy).Contents (Elt F)),
    unary main_arg8 main_v58 (broadcastInDim S1x15 ![1] bcast_S15_S1x15_1 : (⟨S15, .f32⟩ : BufTy).Contents (Elt F) → (⟨S1x15, .f32⟩ : BufTy).Contents (Elt F)),
    unary main_v58 main_v59 (broadcastInDim S256x15 ![0, 1] bcast_S1x15_S256x15_0_1 : (⟨S1x15, .f32⟩ : BufTy).Contents (Elt F) → (⟨S256x15, .f32⟩ : BufTy).Contents (Elt F)),
    binary main_v57 main_v59 main_v60 (addf : (⟨S256x15, .f32⟩ : BufTy).Contents (Elt F) → (⟨S256x15, .f32⟩ : BufTy).Contents (Elt F) → (⟨S256x15, .f32⟩ : BufTy).Contents (Elt F)),
    nullary main_cst_12 (constant S_ .f32 0xFF800000#32),
    binary main_v60 main_cst_12 main_v61 ((fun x v => Host.reduce FloatOps.maximumf x v reducesTo_S256x15_S256_d1 h_S_) : (⟨S256x15, .f32⟩ : BufTy).Contents (Elt F) → (⟨S_, .f32⟩ : BufTy).Contents (Elt F) → (⟨S256, .f32⟩ : BufTy).Contents (Elt F)),
    nullary main_cst_13 (constant S_ .f32 0xFF800000#32),
    unary main_cst_13 main_v62 (broadcastInDim S256 ![] bcast_S_S256 : (⟨S_, .f32⟩ : BufTy).Contents (Elt F) → (⟨S256, .f32⟩ : BufTy).Contents (Elt F)),
    binary main_v62 main_v61 main_v63 (maximumf : (⟨S256, .f32⟩ : BufTy).Contents (Elt F) → (⟨S256, .f32⟩ : BufTy).Contents (Elt F) → (⟨S256, .f32⟩ : BufTy).Contents (Elt F)),
    unary main_v63 main_v64 (broadcastInDim S256x1 ![0] bcast_S256_S256x1_0 : (⟨S256, .f32⟩ : BufTy).Contents (Elt F) → (⟨S256x1, .f32⟩ : BufTy).Contents (Elt F)),
    unary main_v64 main_v65 (broadcastInDim S256x15 ![0, 1] bcast_S256x1_S256x15_0_1 : (⟨S256x1, .f32⟩ : BufTy).Contents (Elt F) → (⟨S256x15, .f32⟩ : BufTy).Contents (Elt F)),
    binary main_v60 main_v65 main_v66 (subf : (⟨S256x15, .f32⟩ : BufTy).Contents (Elt F) → (⟨S256x15, .f32⟩ : BufTy).Contents (Elt F) → (⟨S256x15, .f32⟩ : BufTy).Contents (Elt F)),
    unary main_v66 main_v67 (Host.exp : (⟨S256x15, .f32⟩ : BufTy).Contents (Elt F) → (⟨S256x15, .f32⟩ : BufTy).Contents (Elt F)),
    nullary main_cst_14 (constant S_ .f32 0x00000000#32),
    binary main_v67 main_cst_14 main_v68 ((fun x v => Host.reduceAdd x v reducesTo_S256x15_S256_d1 h_S_) : (⟨S256x15, .f32⟩ : BufTy).Contents (Elt F) → (⟨S_, .f32⟩ : BufTy).Contents (Elt F) → (⟨S256, .f32⟩ : BufTy).Contents (Elt F)),
    unary main_v68 main_v69 (broadcastInDim S256x1 ![0] bcast_S256_S256x1_0 : (⟨S256, .f32⟩ : BufTy).Contents (Elt F) → (⟨S256x1, .f32⟩ : BufTy).Contents (Elt F)),
    unary main_v69 main_v70 (broadcastInDim S256x15 ![0, 1] bcast_S256x1_S256x15_0_1 : (⟨S256x1, .f32⟩ : BufTy).Contents (Elt F) → (⟨S256x15, .f32⟩ : BufTy).Contents (Elt F)),
    binary main_v67 main_v70 main_v71 (Host.divf : (⟨S256x15, .f32⟩ : BufTy).Contents (Elt F) → (⟨S256x15, .f32⟩ : BufTy).Contents (Elt F) → (⟨S256x15, .f32⟩ : BufTy).Contents (Elt F)),
    TRef.nullary (TRef.of (T := ⟨S256x15, .i32⟩) main_call3_v0) (iotaInDim S256x15 32 1),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S256x15, .f32⟩) main_v71) (TRef.of (T := ⟨S256x15, .i32⟩) main_call3_v0) (TRef.of (T := ⟨S_, .f32⟩) main_call3_cst) (TRef.of (T := ⟨S_, .i32⟩) main_call3_c) (TRef.of (T := ⟨S256, .f32⟩) main_call3_v1_0) (fun x y u v j => (Host.argReduce reducer_argmax_f32_i32 x y u v reducesTo_S256x15_S256_d1 h_S_ j).1),
    TRef.quaternary (TRef.of (T := ⟨S256x15, .f32⟩) main_v71) (TRef.of (T := ⟨S256x15, .i32⟩) main_call3_v0) (TRef.of (T := ⟨S_, .f32⟩) main_call3_cst) (TRef.of (T := ⟨S_, .i32⟩) main_call3_c) (TRef.of (T := ⟨S256, .i32⟩) main_v72) (fun x y u v j => (Host.argReduce reducer_argmax_f32_i32 x y u v reducesTo_S256x15_S256_d1 h_S_ j).2) ]

/-- @main's 153 operations, in order (a called function's operations stand in its call's place, spelt `TRef.…`). -/
abbrev ops : List (HloOp τ sig (Elt F)) :=
  ops_part0 ++ (ops_part1)

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨reshape_bufs_sub .., unary_bufs_sub .., binary_bufs_sub .., unary_bufs_sub .., unary_bufs_sub .., binary_bufs_sub .., unary_bufs_sub .., binary_bufs_sub .., unary_bufs_sub .., unary_bufs_sub .., binary_bufs_sub .., binary_bufs_sub .., nullary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨nullary_bufs_sub .., binary_bufs_sub .., unary_bufs_sub .., unary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨nullary_bufs_sub .., binary_bufs_sub .., binary_bufs_sub .., unary_bufs_sub .., nullary_bufs_sub .., unary_bufs_sub .., ternary_bufs_sub .., reshape_bufs_sub .., nullary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub ..⟩
set_option maxRecDepth 8192 in
theorem ops_part0_3_fresh : (ops_part0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨nullary_bufs_sub .., unary_bufs_sub .., binary_bufs_sub .., unary_bufs_sub .., unary_bufs_sub .., nary_bufs_sub .., reshape_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part1_sub op h]
theorem ops_fresh : ∀ op ∈ (ops : List (HloOp τ sig (Elt F))), op.fresh = ∅ := fun op h => by
    simp only [ops, ops_part0, List.mem_append, or_assoc] at h
    rcases h with h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part1_fresh op h]

set_option maxRecDepth 8192 in
/-- `main_v0`'s composed term of the arguments (named: it is used 3 times). -/
def res_main_v0 (V0 : Valuation τ sig (Elt F)) : (Proc.devRef .tc main_v0 : DevRef τ sig).ty.Contents (Elt F) :=
  shapeCast _ (V0 (Proc.devRef .tc main_arg0)) shapeCasts_S256x64x64x3_S256x256x48

set_option maxRecDepth 8192 in
/-- `main_v14`'s composed term of the arguments (named: it is used 2 times). -/
def res_main_v14 (V0 : Valuation τ sig (Elt F)) : (Proc.devRef .tc main_v14 : DevRef τ sig).ty.Contents (Elt F) :=
  Host.divf (Host.dotGeneral dot_S256x256x256_S256x256x256_S256x256x256_2_1_1_2_0_0 none (addf (Host.dotGeneral dot_S256x256x48_S48x256_S256x256x256_2_0_01_1_n_n none (res_main_v0 V0) (transpose S48x256 [1, 0] (V0 (Proc.devRef .tc main_arg1)) transposes_S256x48_S48x256_1_0)) (broadcastInDim S256x256x256 ![0, 1, 2] bcast_S1x1x256_S256x256x256_0_1_2 (broadcastInDim S1x1x256 ![2] bcast_S256_S1x1x256_2 (V0 (Proc.devRef .tc main_arg2))))) (addf (Host.dotGeneral dot_S256x256x48_S48x256_S256x256x256_2_0_01_1_n_n none (res_main_v0 V0) (transpose S48x256 [1, 0] (V0 (Proc.devRef .tc main_arg3)) transposes_S256x48_S48x256_1_0)) (broadcastInDim S256x256x256 ![0, 1, 2] bcast_S1x1x256_S256x256x256_0_1_2 (broadcastInDim S1x1x256 ![2] bcast_S256_S1x1x256_2 (V0 (Proc.devRef .tc main_arg4)))))) (broadcastInDim S256x256x256 ![] bcast_S_S256x256x256 (Host.sqrt (constant S_ .f32 0x42400000#32)))

set_option maxRecDepth 8192 in
/-- `main_v21`'s composed term of the arguments (named: it is used 2 times). -/
def res_main_v21 (V0 : Valuation τ sig (Elt F)) : (Proc.devRef .tc main_v21 : DevRef τ sig).ty.Contents (Elt F) :=
  Host.exp (subf (res_main_v14 V0) (broadcastInDim S256x256x256 ![0, 1, 2] bcast_S256x256x1_S256x256x256_0_1_2 (broadcastInDim S256x256x1 ![0, 1] bcast_S256x256_S256x256x1_0_1 (maximumf (broadcastInDim S256x256 ![] bcast_S_S256x256 (constant S_ .f32 0xFF800000#32)) (Host.reduce FloatOps.maximumf (res_main_v14 V0) (constant S_ .f32 0xFF800000#32) reducesTo_S256x256x256_S256x256_d2 h_S_)))))

set_option maxRecDepth 8192 in
/-- `main_v26`'s composed term of the arguments (named: it is used 2 times). -/
def res_main_v26 (V0 : Valuation τ sig (Elt F)) : (Proc.devRef .tc main_v26 : DevRef τ sig).ty.Contents (Elt F) :=
  Host.reduceAdd (Host.divf (res_main_v21 V0) (broadcastInDim S256x256x256 ![0, 1, 2] bcast_S256x256x1_S256x256x256_0_1_2 (broadcastInDim S256x256x1 ![0, 1] bcast_S256x256_S256x256x1_0_1 (Host.reduceAdd (res_main_v21 V0) (constant S_ .f32 0x00000000#32) reducesTo_S256x256x256_S256x256_d2 h_S_)))) (constant S_ .f32 0x00000000#32) reducesTo_S256x256x256_S256x256_d1 h_S_

set_option maxRecDepth 8192 in
/-- `main_indices`'s composed term of the arguments (named: it is used 5 times). -/
def res_main_indices (V0 : Valuation τ sig (Elt F)) : (Proc.devRef .tc main_indices : DevRef τ sig).ty.Contents (Elt F) :=
  (Host.topK S256x8 1 (FloatOps.cmpfTotal .gt) (res_main_v26 V0) sliceFits_S256x256_S256x8).2

set_option maxRecDepth 8192 in
/-- `main_call0_v0`'s composed term of the arguments (named: it is used 3 times). -/
def res_main_call0_v0 (V0 : Valuation τ sig (Elt F)) : (Proc.devRef .tc main_call0_v0 : DevRef τ sig).ty.Contents (Elt F) :=
  id (constantI S_ 32 64#32)

set_option maxRecDepth 8192 in
/-- `main_call0_v2`'s composed term of the arguments (named: it is used 2 times). -/
def res_main_call0_v2 (V0 : Valuation τ sig (Elt F)) : (Proc.devRef .tc main_call0_v2 : DevRef τ sig).ty.Contents (Elt F) :=
  Host.divsi (res_main_indices V0) (broadcastInDim S256x8 ![] bcast_S_S256x8 (res_main_call0_v0 V0))

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  id (constantI S_ 32 64#32)

set_option maxRecDepth 8192 in
/-- `main_call1_v2`'s composed term of the arguments (named: it is used 3 times). -/
def res_main_call1_v2 (V0 : Valuation τ sig (Elt F)) : (Proc.devRef .tc main_call1_v2 : DevRef τ sig).ty.Contents (Elt F) :=
  select (cmpi .eq (res_main_call1_v0 V0) (constantI S_ 32 0#32)) (constantI S_ 32 1#32) (res_main_call1_v0 V0)

set_option maxRecDepth 8192 in
/-- `main_call1_v4`'s composed term of the arguments (named: it is used 4 times). -/
def res_main_call1_v4 (V0 : Valuation τ sig (Elt F)) : (Proc.devRef .tc main_call1_v4 : DevRef τ sig).ty.Contents (Elt F) :=
  Host.remsi (res_main_indices V0) (broadcastInDim S256x8 ![] bcast_S_S256x8 (res_main_call1_v2 V0))

set_option maxRecDepth 8192 in
/-- `main_v29`'s composed term of the arguments (named: it is used 3 times). -/
def res_main_v29 (V0 : Valuation τ sig (Elt F)) : (Proc.devRef .tc main_v29 : DevRef τ sig).ty.Contents (Elt F) :=
  broadcastInDim S256x8x1 ![0, 1] bcast_S256x8_S256x8x1_0_1 (res_main_indices V0)

set_option maxRecDepth 8192 in
/-- `main_call2_v4`'s composed term of the arguments (named: it is used 3 times). -/
def res_main_call2_v4 (V0 : Valuation τ sig (Elt F)) : (Proc.devRef .tc main_call2_v4 : DevRef τ sig).ty.Contents (Elt F) :=
  select (cmpi .slt (res_main_v29 V0) (broadcastInDim S256x8x1 ![] bcast_S_S256x8x1 (constantI S_ 32 0#32))) (addi (res_main_v29 V0) (broadcastInDim S256x8x1 ![] bcast_S_S256x8x1 (constantI S_ 32 256#32))) (res_main_v29 V0)

set_option maxRecDepth 8192 in
/-- `main_v60`'s composed term of the arguments (named: it is used 2 times). -/
def res_main_v60 (V0 : Valuation τ sig (Elt F)) : (Proc.devRef .tc main_v60 : DevRef τ sig).ty.Contents (Elt F) :=
  addf (Host.dotGeneral dot_S256x6_S6x15_S256x15_1_0_0_1_n_n none (addf (Host.dotGeneral dot_S256x40_S40x6_S256x6_1_0_0_1_n_n none (shapeCast _ ((concatenate S256x8x5 2 [⟨S256x8x1, ((broadcastInDim S256x8x1 ![0, 1] bcast_S256x8_S256x8x1_0_1 (Host.divf (addf (sitofp .f32 (select (andi (cmpi .ne (signi (res_main_indices V0)) (broadcastInDim S256x8 ![] bcast_S_S256x8 (signi (res_main_call0_v0 V0)))) (cmpi .ne (Host.remsi (res_main_indices V0) (broadcastInDim S256x8 ![] bcast_S_S256x8 (res_main_call0_v0 V0))) (broadcastInDim S256x8 ![] bcast_S_S256x8 (constantI S_ 32 0#32)))) (subi (res_main_call0_v2 V0) (broadcastInDim S256x8 ![] bcast_S_S256x8 (constantI S_ 32 1#32))) (res_main_call0_v2 V0))) (broadcastInDim S256x8 ![] bcast_S_S256x8 (constant S_ .f32 0x40000000#32))) (broadcastInDim S256x8 ![] bcast_S_S256x8 (constant S_ .f32 0x42800000#32)))) : (⟨S256x8x1, .f32⟩ : BufTy).Contents (Elt F))⟩, ⟨S256x8x1, ((broadcastInDim S256x8x1 ![0, 1] bcast_S256x8_S256x8x1_0_1 (Host.divf (addf (sitofp .f32 (select (andi (cmpi .ne (cmpi .slt (res_main_call1_v4 V0) (broadcastInDim S256x8 ![] bcast_S_S256x8 (constantI S_ 32 0#32))) (broadcastInDim S256x8 ![] bcast_S_S256x8 (cmpi .slt (res_main_call1_v2 V0) (constantI S_ 32 0#32)))) (cmpi .ne (res_main_call1_v4 V0) (broadcastInDim S256x8 ![] bcast_S_S256x8 (constantI S_ 32 0#32)))) (addi (res_main_call1_v4 V0) (broadcastInDim S256x8 ![] bcast_S_S256x8 (res_main_call1_v2 V0))) (res_main_call1_v4 V0))) (broadcastInDim S256x8 ![] bcast_S_S256x8 (constant S_ .f32 0x40000000#32))) (broadcastInDim S256x8 ![] bcast_S_S256x8 (constant S_ .f32 0x42800000#32)))) : (⟨S256x8x1, .f32⟩ : BufTy).Contents (Elt F))⟩, ⟨S256x8x3, ((Host.divf (Host.divf (Host.reduceAdd (shapeCast _ (select (broadcastInDim S256x8x48 ![0, 1] bcast_S256x8_S256x8x48_0_1 (Host.reduce IntOp.andi (andi (cmpi .sge (res_main_call2_v4 V0) (broadcastInDim S256x8x1 ![] bcast_S_S256x8x1 (constantI S_ 32 0#32))) (cmpi .sle (res_main_call2_v4 V0) (broadcastInDim S256x8x1 ![0, 1, 2] bcast_S1x1x1_S256x8x1_0_1_2 (broadcastInDim S1x1x1 ![2] bcast_S1_S1x1x1_2 (constantI S1 32 255#32))))) (constantI S_ 1 1#1) reducesTo_S256x8x1_S256x8_d2 h_S_)) (Host.gather gather_S256x256x48_S256x8x1_S256x8x48_2_1_0_0_1_2_1148 (res_main_v0 V0) (res_main_call2_v4 V0)) (broadcastInDim S256x8x48 ![] bcast_S_S256x8x48 (constant S_ .f32 0x7FC00000#32))) shapeCasts_S256x8x48_S256x8x16x3) (constant S_ .f32 0x00000000#32) reducesTo_S256x8x16x3_S256x8x3_d2 h_S_) (broadcastInDim S256x8x3 ![] bcast_S_S256x8x3 (constant S_ .f32 0x41800000#32))) (broadcastInDim S256x8x3 ![] bcast_S_S256x8x3 (constant S_ .f32 0x437F0000#32))) : (⟨S256x8x3, .f32⟩ : BufTy).Contents (Elt F))⟩] concatenates_S256x8x1_S256x8x1_S256x8x3_S256x8x5_d2 : (⟨S256x8x5, .f32⟩ : BufTy).Contents (Elt F))) shapeCasts_S256x8x5_S256x40) (transpose S40x6 [1, 0] (V0 (Proc.devRef .tc main_arg5)) transposes_S6x40_S40x6_1_0)) (broadcastInDim S256x6 ![0, 1] bcast_S1x6_S256x6_0_1 (broadcastInDim S1x6 ![1] bcast_S6_S1x6_1 (V0 (Proc.devRef .tc main_arg6))))) (transpose S6x15 [1, 0] (V0 (Proc.devRef .tc main_arg7)) transposes_S15x6_S6x15_1_0)) (broadcastInDim S256x15 ![0, 1] bcast_S1x15_S256x15_0_1 (broadcastInDim S1x15 ![1] bcast_S15_S1x15_1 (V0 (Proc.devRef .tc main_arg8))))

set_option maxRecDepth 8192 in
/-- `main_v67`'s composed term of the arguments (named: it is used 2 times). -/
def res_main_v67 (V0 : Valuation τ sig (Elt F)) : (Proc.devRef .tc main_v67 : DevRef τ sig).ty.Contents (Elt F) :=
  Host.exp (subf (res_main_v60 V0) (broadcastInDim S256x15 ![0, 1] bcast_S256x1_S256x15_0_1 (broadcastInDim S256x1 ![0] bcast_S256_S256x1_0 (maximumf (broadcastInDim S256 ![] bcast_S_S256 (constant S_ .f32 0xFF800000#32)) (Host.reduce FloatOps.maximumf (res_main_v60 V0) (constant S_ .f32 0xFF800000#32) reducesTo_S256x15_S256_d1 h_S_)))))

set_option maxRecDepth 8192 in
/-- `main_v71`'s composed term of the arguments (named: it is used 2 times). -/
def res_main_v71 (V0 : Valuation τ sig (Elt F)) : (Proc.devRef .tc main_v71 : DevRef τ sig).ty.Contents (Elt F) :=
  Host.divf (res_main_v67 V0) (broadcastInDim S256x15 ![0, 1] bcast_S256x1_S256x15_0_1 (broadcastInDim S256x1 ![0] bcast_S256_S256x1_0 (Host.reduceAdd (res_main_v67 V0) (constant S_ .f32 0x00000000#32) reducesTo_S256x15_S256_d1 h_S_)))

/-- The second result's composed term: the argmax of the actions' rows, as the reduction of (value, index) pairs. -/
def res_main_v72 (V0 : Valuation τ sig (Elt F)) : (Proc.devRef .tc main_v72 : DevRef τ sig).ty.Contents (Elt F) :=
  fun j => (Host.argReduce reducer_argmax_f32_i32 (res_main_v71 V0) (iotaInDim S256x15 32 1) (constant S_ .f32 0xFF800000#32) (constantI S_ 32 0#32) reducesTo_S256x15_S256_d1 h_S_ j).2

/-- `res_main_v71` by its position among the values @main returns, 1 counting from 0: the name for hand proofs to cite, since
    a re-print renumbers `main_v71`. An abbreviation: it unfolds to the `res_main_v71` that `run` states. -/
abbrev res_out1 (V0 : Valuation τ sig (Elt F)) : (Proc.devRef .tc main_v71 : DevRef τ sig).ty.Contents (Elt F) := res_main_v71 V0

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_v5, main_v6, main_v7, main_v8, main_v9, main_v10, main_v11, main_cst, main_v12, main_v13, main_v14, main_cst_0, main_v15, main_cst_1, main_v16, main_v17, main_v18, main_v19, main_v20, main_v21, main_cst_2, main_v22, main_v23, main_v24, main_v25]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]
  repeat' apply And.intro
  all_goals
    simp only [nullary_writes, unary_writes, binary_writes, ternary_writes, quaternary_writes, reshape_writes, nary_writes, Finset.singleton_subset_iff, List.mem_toFinset]
    exact List.mem_map_of_mem (by decide)
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
theorem val0_1_main_arg6 (V0 : Valuation τ sig (Elt F)) : val0_1 V0 (no_index (Proc.devRef .tc main_arg6)) = V0 (Proc.devRef .tc main_arg6) :=
  (val0_1_keep V0 main_arg6 (by decide)).trans (val0_main_arg6 V0)
theorem val0_1_main_arg7 (V0 : Valuation τ sig (Elt F)) : val0_1 V0 (no_index (Proc.devRef .tc main_arg7)) = V0 (Proc.devRef .tc main_arg7) :=
  (val0_1_keep V0 main_arg7 (by decide)).trans (val0_main_arg7 V0)
theorem val0_1_main_arg8 (V0 : Valuation τ sig (Elt F)) : val0_1 V0 (no_index (Proc.devRef .tc main_arg8)) = V0 (Proc.devRef .tc main_arg8) :=
  (val0_1_keep V0 main_arg8 (by decide)).trans (val0_main_arg8 V0)
set_option maxRecDepth 8192 in
set_option maxHeartbeats 2000000 in
theorem val0_1_main_v0 (V0 : Valuation τ sig (Elt F)) : val0_1 V0 (no_index (Proc.devRef .tc main_v0)) = res_main_v0 V0 := by
  unfold val0_1
  simp only [ops_part0_0]
  after_results_simp
  simp only [val0_main_arg0] <;> rfl
set_option maxRecDepth 8192 in
set_option maxHeartbeats 2000000 in
theorem val0_1_main_v25 (V0 : Valuation τ sig (Elt F)) : val0_1 V0 (no_index (Proc.devRef .tc main_v25)) = Host.divf (res_main_v21 V0) (broadcastInDim S256x256x256 ![0, 1, 2] bcast_S256x256x1_S256x256x256_0_1_2 (broadcastInDim S256x256x1 ![0, 1] bcast_S256x256_S256x256x1_0_1 (Host.reduceAdd (res_main_v21 V0) (constant S_ .f32 0x00000000#32) reducesTo_S256x256x256_S256x256_d2 h_S_))) := by
  unfold val0_1
  simp only [ops_part0_0]
  after_results_simp
  simp only [val0_main_arg4, val0_main_arg3, val0_main_arg0, val0_main_arg2, val0_main_arg1] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_cst_3, main_v26, main_values, main_indices, main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v27, main_c_4, main_call1_v0, main_call1_c, main_call1_v1, main_call1_c_0, main_call1_v2, main_call1_v3, main_call1_v4]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]
  repeat' apply And.intro
  all_goals
    simp only [nullary_writes, unary_writes, binary_writes, ternary_writes, quaternary_writes, reshape_writes, nary_writes, Finset.singleton_subset_iff, List.mem_toFinset]
    exact List.mem_map_of_mem (by decide)
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
theorem val0_2_main_arg6 (V0 : Valuation τ sig (Elt F)) : val0_2 V0 (no_index (Proc.devRef .tc main_arg6)) = V0 (Proc.devRef .tc main_arg6) :=
  (val0_2_keep V0 main_arg6 (by decide)).trans (val0_1_main_arg6 V0)
theorem val0_2_main_arg7 (V0 : Valuation τ sig (Elt F)) : val0_2 V0 (no_index (Proc.devRef .tc main_arg7)) = V0 (Proc.devRef .tc main_arg7) :=
  (val0_2_keep V0 main_arg7 (by decide)).trans (val0_1_main_arg7 V0)
theorem val0_2_main_arg8 (V0 : Valuation τ sig (Elt F)) : val0_2 V0 (no_index (Proc.devRef .tc main_arg8)) = V0 (Proc.devRef .tc main_arg8) :=
  (val0_2_keep V0 main_arg8 (by decide)).trans (val0_1_main_arg8 V0)
theorem val0_2_main_v0 (V0 : Valuation τ sig (Elt F)) : val0_2 V0 (no_index (Proc.devRef .tc main_v0)) = res_main_v0 V0 :=
  (val0_2_keep V0 main_v0 (by decide)).trans (val0_1_main_v0 V0)
set_option maxRecDepth 8192 in
set_option maxHeartbeats 2000000 in
theorem val0_2_main_indices (V0 : Valuation τ sig (Elt F)) : val0_2 V0 (no_index (Proc.devRef .tc main_indices)) = res_main_indices V0 := by
  unfold val0_2
  simp only [ops_part0_1, TRef.binary, TRef.nullary, TRef.ternary, TRef.unary, TRef.toBuf, TRef.ofBuf, cast_eq]
  after_results_simp
  simp only [val0_1_main_v25] <;> rfl
set_option maxRecDepth 8192 in
set_option maxHeartbeats 2000000 in
theorem val0_2_main_v27 (V0 : Valuation τ sig (Elt F)) : val0_2 V0 (no_index (Proc.devRef .tc main_v27)) = select (andi (cmpi .ne (signi (res_main_indices V0)) (broadcastInDim S256x8 ![] bcast_S_S256x8 (signi (res_main_call0_v0 V0)))) (cmpi .ne (Host.remsi (res_main_indices V0) (broadcastInDim S256x8 ![] bcast_S_S256x8 (res_main_call0_v0 V0))) (broadcastInDim S256x8 ![] bcast_S_S256x8 (constantI S_ 32 0#32)))) (subi (res_main_call0_v2 V0) (broadcastInDim S256x8 ![] bcast_S_S256x8 (constantI S_ 32 1#32))) (res_main_call0_v2 V0) := by
  unfold val0_2
  simp only [ops_part0_1, TRef.binary, TRef.nullary, TRef.ternary, TRef.unary, TRef.toBuf, TRef.ofBuf, cast_eq]
  after_results_simp
  simp only [val0_1_main_v25] <;> rfl
set_option maxRecDepth 8192 in
set_option maxHeartbeats 2000000 in
theorem val0_2_main_call1_v2 (V0 : Valuation τ sig (Elt F)) : val0_2 V0 (no_index (Proc.devRef .tc main_call1_v2)) = res_main_call1_v2 V0 := by
  unfold val0_2
  simp only [ops_part0_1, TRef.binary, TRef.nullary, TRef.ternary, TRef.unary, TRef.toBuf, TRef.ofBuf, cast_eq]
  after_results_simp
  all_goals rfl
set_option maxRecDepth 8192 in
set_option maxHeartbeats 2000000 in
theorem val0_2_main_call1_v4 (V0 : Valuation τ sig (Elt F)) : val0_2 V0 (no_index (Proc.devRef .tc main_call1_v4)) = res_main_call1_v4 V0 := by
  unfold val0_2
  simp only [ops_part0_1, TRef.binary, TRef.nullary, TRef.ternary, TRef.unary, TRef.toBuf, TRef.ofBuf, cast_eq]
  after_results_simp
  simp only [val0_1_main_v25] <;> rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_call1_c_1, main_call1_v5, main_call1_v6, main_call1_c_2, main_call1_v7, main_call1_v8, main_call1_c_3, main_call1_v9, main_call1_v10, main_call1_v11, main_call1_v12, main_call1_v13, main_call1_v14, main_v28, main_v29, main_call2_c, main_call2_v0, main_call2_v1, main_call2_c_0, main_call2_v2, main_call2_v3, main_call2_v4, main_call2_c_1, main_call2_c_2, main_call2_v5, main_call2_v6, main_call2_v7, main_call2_v8, main_call2_v9, main_call2_v10]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]
  repeat' apply And.intro
  all_goals
    simp only [nullary_writes, unary_writes, binary_writes, ternary_writes, quaternary_writes, reshape_writes, nary_writes, Finset.singleton_subset_iff, List.mem_toFinset]
    exact List.mem_map_of_mem (by decide)
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
theorem val0_3_main_arg2 (V0 : Valuation τ sig (Elt F)) : val0_3 V0 (no_index (Proc.devRef .tc main_arg2)) = V0 (Proc.devRef .tc main_arg2) :=
  (val0_3_keep V0 main_arg2 (by decide)).trans (val0_2_main_arg2 V0)
theorem val0_3_main_arg3 (V0 : Valuation τ sig (Elt F)) : val0_3 V0 (no_index (Proc.devRef .tc main_arg3)) = V0 (Proc.devRef .tc main_arg3) :=
  (val0_3_keep V0 main_arg3 (by decide)).trans (val0_2_main_arg3 V0)
theorem val0_3_main_arg4 (V0 : Valuation τ sig (Elt F)) : val0_3 V0 (no_index (Proc.devRef .tc main_arg4)) = V0 (Proc.devRef .tc main_arg4) :=
  (val0_3_keep V0 main_arg4 (by decide)).trans (val0_2_main_arg4 V0)
theorem val0_3_main_arg5 (V0 : Valuation τ sig (Elt F)) : val0_3 V0 (no_index (Proc.devRef .tc main_arg5)) = V0 (Proc.devRef .tc main_arg5) :=
  (val0_3_keep V0 main_arg5 (by decide)).trans (val0_2_main_arg5 V0)
theorem val0_3_main_arg6 (V0 : Valuation τ sig (Elt F)) : val0_3 V0 (no_index (Proc.devRef .tc main_arg6)) = V0 (Proc.devRef .tc main_arg6) :=
  (val0_3_keep V0 main_arg6 (by decide)).trans (val0_2_main_arg6 V0)
theorem val0_3_main_arg7 (V0 : Valuation τ sig (Elt F)) : val0_3 V0 (no_index (Proc.devRef .tc main_arg7)) = V0 (Proc.devRef .tc main_arg7) :=
  (val0_3_keep V0 main_arg7 (by decide)).trans (val0_2_main_arg7 V0)
theorem val0_3_main_arg8 (V0 : Valuation τ sig (Elt F)) : val0_3 V0 (no_index (Proc.devRef .tc main_arg8)) = V0 (Proc.devRef .tc main_arg8) :=
  (val0_3_keep V0 main_arg8 (by decide)).trans (val0_2_main_arg8 V0)
theorem val0_3_main_v0 (V0 : Valuation τ sig (Elt F)) : val0_3 V0 (no_index (Proc.devRef .tc main_v0)) = res_main_v0 V0 :=
  (val0_3_keep V0 main_v0 (by decide)).trans (val0_2_main_v0 V0)
theorem val0_3_main_v27 (V0 : Valuation τ sig (Elt F)) : val0_3 V0 (no_index (Proc.devRef .tc main_v27)) = select (andi (cmpi .ne (signi (res_main_indices V0)) (broadcastInDim S256x8 ![] bcast_S_S256x8 (signi (res_main_call0_v0 V0)))) (cmpi .ne (Host.remsi (res_main_indices V0) (broadcastInDim S256x8 ![] bcast_S_S256x8 (res_main_call0_v0 V0))) (broadcastInDim S256x8 ![] bcast_S_S256x8 (constantI S_ 32 0#32)))) (subi (res_main_call0_v2 V0) (broadcastInDim S256x8 ![] bcast_S_S256x8 (constantI S_ 32 1#32))) (res_main_call0_v2 V0) :=
  (val0_3_keep V0 main_v27 (by decide)).trans (val0_2_main_v27 V0)
set_option maxRecDepth 8192 in
set_option maxHeartbeats 2000000 in
theorem val0_3_main_v28 (V0 : Valuation τ sig (Elt F)) : val0_3 V0 (no_index (Proc.devRef .tc main_v28)) = select (andi (cmpi .ne (cmpi .slt (res_main_call1_v4 V0) (broadcastInDim S256x8 ![] bcast_S_S256x8 (constantI S_ 32 0#32))) (broadcastInDim S256x8 ![] bcast_S_S256x8 (cmpi .slt (res_main_call1_v2 V0) (constantI S_ 32 0#32)))) (cmpi .ne (res_main_call1_v4 V0) (broadcastInDim S256x8 ![] bcast_S_S256x8 (constantI S_ 32 0#32)))) (addi (res_main_call1_v4 V0) (broadcastInDim S256x8 ![] bcast_S_S256x8 (res_main_call1_v2 V0))) (res_main_call1_v4 V0) := by
  unfold val0_3
  simp only [ops_part0_2, TRef.binary, TRef.nullary, TRef.ternary, TRef.unary, TRef.toBuf, TRef.ofBuf, cast_eq]
  after_results_simp
  simp only [val0_2_main_call1_v4, val0_2_main_call1_v2] <;> rfl
set_option maxRecDepth 8192 in
set_option maxHeartbeats 2000000 in
theorem val0_3_main_call2_v4 (V0 : Valuation τ sig (Elt F)) : val0_3 V0 (no_index (Proc.devRef .tc main_call2_v4)) = res_main_call2_v4 V0 := by
  unfold val0_3
  simp only [ops_part0_2, TRef.binary, TRef.nullary, TRef.ternary, TRef.unary, TRef.toBuf, TRef.ofBuf, cast_eq]
  after_results_simp
  simp only [val0_2_main_indices] <;> rfl
set_option maxRecDepth 8192 in
set_option maxHeartbeats 2000000 in
theorem val0_3_main_call2_v10 (V0 : Valuation τ sig (Elt F)) : val0_3 V0 (no_index (Proc.devRef .tc main_call2_v10)) = andi (cmpi .sge (res_main_call2_v4 V0) (broadcastInDim S256x8x1 ![] bcast_S_S256x8x1 (constantI S_ 32 0#32))) (cmpi .sle (res_main_call2_v4 V0) (broadcastInDim S256x8x1 ![0, 1, 2] bcast_S1x1x1_S256x8x1_0_1_2 (broadcastInDim S1x1x1 ![2] bcast_S1_S1x1x1_2 (constantI S1 32 255#32)))) := by
  unfold val0_3
  simp only [ops_part0_2, TRef.binary, TRef.nullary, TRef.ternary, TRef.unary, TRef.toBuf, TRef.ofBuf, cast_eq]
  after_results_simp
  simp only [val0_2_main_indices] <;> rfl

/-- The device's buffer contents after @main's first 1 window. -/
def val1 (V0 : Valuation τ sig (Elt F)) : Valuation τ sig (Elt F) := after ops_part0_3 (val0_3 V0)
/-- The buffers that window `ops_part0_3`'s operations write. -/
abbrev ops_part0_3_W : List (Ref sig .tc) := [main_call2_c_3, main_call2_v11, main_call2_v12, main_call2_v13, main_call2_cst, main_call2_v14, main_v30, main_v31, main_cst_5, main_v32, main_cst_6, main_v33, main_v34, main_cst_7, main_v35, main_v36, main_v37, main_cst_8, main_v38, main_v39, main_cst_9, main_v40, main_v41, main_v42, main_cst_10, main_v43, main_v44]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]
  repeat' apply And.intro
  all_goals
    simp only [nullary_writes, unary_writes, binary_writes, ternary_writes, quaternary_writes, reshape_writes, nary_writes, Finset.singleton_subset_iff, List.mem_toFinset]
    exact List.mem_map_of_mem (by decide)
/-- A buffer that window `ops_part0_3` does not write keeps its contents through it. -/
theorem val1_keep (V0 : Valuation τ sig (Elt F)) (r : Ref sig .tc) (h : r ∉ ops_part0_3_W) :
    val1 V0 (Proc.devRef .tc r) = val0_3 V0 (Proc.devRef .tc r) :=
  after_of_writes_sub ops_part0_3 _ ops_part0_3_writes h
theorem val1_main_arg0 (V0 : Valuation τ sig (Elt F)) : val1 V0 (no_index (Proc.devRef .tc main_arg0)) = V0 (Proc.devRef .tc main_arg0) :=
  (val1_keep V0 main_arg0 (by decide)).trans (val0_3_main_arg0 V0)
theorem val1_main_arg1 (V0 : Valuation τ sig (Elt F)) : val1 V0 (no_index (Proc.devRef .tc main_arg1)) = V0 (Proc.devRef .tc main_arg1) :=
  (val1_keep V0 main_arg1 (by decide)).trans (val0_3_main_arg1 V0)
theorem val1_main_arg2 (V0 : Valuation τ sig (Elt F)) : val1 V0 (no_index (Proc.devRef .tc main_arg2)) = V0 (Proc.devRef .tc main_arg2) :=
  (val1_keep V0 main_arg2 (by decide)).trans (val0_3_main_arg2 V0)
theorem val1_main_arg3 (V0 : Valuation τ sig (Elt F)) : val1 V0 (no_index (Proc.devRef .tc main_arg3)) = V0 (Proc.devRef .tc main_arg3) :=
  (val1_keep V0 main_arg3 (by decide)).trans (val0_3_main_arg3 V0)
theorem val1_main_arg4 (V0 : Valuation τ sig (Elt F)) : val1 V0 (no_index (Proc.devRef .tc main_arg4)) = V0 (Proc.devRef .tc main_arg4) :=
  (val1_keep V0 main_arg4 (by decide)).trans (val0_3_main_arg4 V0)
theorem val1_main_arg5 (V0 : Valuation τ sig (Elt F)) : val1 V0 (no_index (Proc.devRef .tc main_arg5)) = V0 (Proc.devRef .tc main_arg5) :=
  (val1_keep V0 main_arg5 (by decide)).trans (val0_3_main_arg5 V0)
theorem val1_main_arg6 (V0 : Valuation τ sig (Elt F)) : val1 V0 (no_index (Proc.devRef .tc main_arg6)) = V0 (Proc.devRef .tc main_arg6) :=
  (val1_keep V0 main_arg6 (by decide)).trans (val0_3_main_arg6 V0)
theorem val1_main_arg7 (V0 : Valuation τ sig (Elt F)) : val1 V0 (no_index (Proc.devRef .tc main_arg7)) = V0 (Proc.devRef .tc main_arg7) :=
  (val1_keep V0 main_arg7 (by decide)).trans (val0_3_main_arg7 V0)
theorem val1_main_arg8 (V0 : Valuation τ sig (Elt F)) : val1 V0 (no_index (Proc.devRef .tc main_arg8)) = V0 (Proc.devRef .tc main_arg8) :=
  (val1_keep V0 main_arg8 (by decide)).trans (val0_3_main_arg8 V0)
set_option maxRecDepth 8192 in
set_option maxHeartbeats 2000000 in
theorem val1_main_v36 (V0 : Valuation τ sig (Elt F)) : val1 V0 (no_index (Proc.devRef .tc main_v36)) = Host.divf (Host.divf (Host.reduceAdd (shapeCast _ (select (broadcastInDim S256x8x48 ![0, 1] bcast_S256x8_S256x8x48_0_1 (Host.reduce IntOp.andi (andi (cmpi .sge (res_main_call2_v4 V0) (broadcastInDim S256x8x1 ![] bcast_S_S256x8x1 (constantI S_ 32 0#32))) (cmpi .sle (res_main_call2_v4 V0) (broadcastInDim S256x8x1 ![0, 1, 2] bcast_S1x1x1_S256x8x1_0_1_2 (broadcastInDim S1x1x1 ![2] bcast_S1_S1x1x1_2 (constantI S1 32 255#32))))) (constantI S_ 1 1#1) reducesTo_S256x8x1_S256x8_d2 h_S_)) (Host.gather gather_S256x256x48_S256x8x1_S256x8x48_2_1_0_0_1_2_1148 (res_main_v0 V0) (res_main_call2_v4 V0)) (broadcastInDim S256x8x48 ![] bcast_S_S256x8x48 (constant S_ .f32 0x7FC00000#32))) shapeCasts_S256x8x48_S256x8x16x3) (constant S_ .f32 0x00000000#32) reducesTo_S256x8x16x3_S256x8x3_d2 h_S_) (broadcastInDim S256x8x3 ![] bcast_S_S256x8x3 (constant S_ .f32 0x41800000#32))) (broadcastInDim S256x8x3 ![] bcast_S_S256x8x3 (constant S_ .f32 0x437F0000#32)) := by
  unfold val1
  simp only [ops_part0_3, TRef.binary, TRef.nullary, TRef.ternary, TRef.unary, TRef.toBuf, TRef.ofBuf, cast_eq]
  after_results_simp
  simp only [val0_3_main_call2_v4, val0_3_main_v0, val0_3_main_call2_v10] <;> rfl
set_option maxRecDepth 8192 in
set_option maxHeartbeats 2000000 in
theorem val1_main_v41 (V0 : Valuation τ sig (Elt F)) : val1 V0 (no_index (Proc.devRef .tc main_v41)) = Host.divf (addf (sitofp .f32 (select (andi (cmpi .ne (signi (res_main_indices V0)) (broadcastInDim S256x8 ![] bcast_S_S256x8 (signi (res_main_call0_v0 V0)))) (cmpi .ne (Host.remsi (res_main_indices V0) (broadcastInDim S256x8 ![] bcast_S_S256x8 (res_main_call0_v0 V0))) (broadcastInDim S256x8 ![] bcast_S_S256x8 (constantI S_ 32 0#32)))) (subi (res_main_call0_v2 V0) (broadcastInDim S256x8 ![] bcast_S_S256x8 (constantI S_ 32 1#32))) (res_main_call0_v2 V0))) (broadcastInDim S256x8 ![] bcast_S_S256x8 (constant S_ .f32 0x40000000#32))) (broadcastInDim S256x8 ![] bcast_S_S256x8 (constant S_ .f32 0x42800000#32)) := by
  unfold val1
  simp only [ops_part0_3, TRef.binary, TRef.nullary, TRef.ternary, TRef.unary, TRef.toBuf, TRef.ofBuf, cast_eq]
  after_results_simp
  simp only [val0_3_main_v27] <;> rfl
set_option maxRecDepth 8192 in
set_option maxHeartbeats 2000000 in
theorem val1_main_v44 (V0 : Valuation τ sig (Elt F)) : val1 V0 (no_index (Proc.devRef .tc main_v44)) = addf (sitofp .f32 (select (andi (cmpi .ne (cmpi .slt (res_main_call1_v4 V0) (broadcastInDim S256x8 ![] bcast_S_S256x8 (constantI S_ 32 0#32))) (broadcastInDim S256x8 ![] bcast_S_S256x8 (cmpi .slt (res_main_call1_v2 V0) (constantI S_ 32 0#32)))) (cmpi .ne (res_main_call1_v4 V0) (broadcastInDim S256x8 ![] bcast_S_S256x8 (constantI S_ 32 0#32)))) (addi (res_main_call1_v4 V0) (broadcastInDim S256x8 ![] bcast_S_S256x8 (res_main_call1_v2 V0))) (res_main_call1_v4 V0))) (broadcastInDim S256x8 ![] bcast_S_S256x8 (constant S_ .f32 0x40000000#32)) := by
  unfold val1
  simp only [ops_part0_3, TRef.binary, TRef.nullary, TRef.ternary, TRef.unary, TRef.toBuf, TRef.ofBuf, cast_eq]
  after_results_simp
  simp only [val0_3_main_v28] <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_cst_11, main_v45, main_v46, main_v47, main_v48, main_v49, main_v50, main_v51, main_v52, main_v53, main_v54, main_v55, main_v56, main_v57, main_v58, main_v59, main_v60, main_cst_12, main_v61, main_cst_13, main_v62, main_v63, main_v64, main_v65, main_v66, main_v67, main_cst_14, main_v68, main_v69, main_v70, main_v71, main_call3_v0, main_call3_cst, main_call3_c, main_call3_v1_0, main_v72]
set_option maxRecDepth 8192 in
theorem ops_part1_writes : (ops_part1 : List (HloOp τ sig (Elt F))).Forall fun op => op.writes ⊆ (ops_part1_W.map (Proc.devRef (τ := τ) .tc)).toFinset := by
  simp only [List.Forall]
  repeat' apply And.intro
  all_goals
    simp only [nullary_writes, unary_writes, binary_writes, ternary_writes, quaternary_writes, reshape_writes, nary_writes, Finset.singleton_subset_iff, List.mem_toFinset]
    exact List.mem_map_of_mem (by decide)
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
set_option maxRecDepth 8192 in
set_option maxHeartbeats 2000000 in
theorem val2_main_v71 (V0 : Valuation τ sig (Elt F)) : val2 V0 (no_index (Proc.devRef .tc main_v71)) = res_main_v71 V0 := by
  unfold val2
  simp only [ops_part1, TRef.nullary, TRef.quaternary, TRef.toBuf, TRef.ofBuf, cast_eq]
  after_results_simp
  try dsimp only [Matrix.cons_val]
  try after_results_simp
  simp only [val1_main_arg8, val1_main_arg7, val1_main_arg6, val1_main_arg5, val1_main_v36, val1_main_v44, val1_main_v41] <;> rfl
set_option maxRecDepth 8192 in
set_option maxHeartbeats 2000000 in
theorem val2_main_v72 (V0 : Valuation τ sig (Elt F)) : val2 V0 (no_index (Proc.devRef .tc main_v72)) = res_main_v72 V0 := by
  unfold val2
  simp only [ops_part1, TRef.nullary, TRef.quaternary, TRef.toBuf, TRef.ofBuf, cast_eq]
  after_results_simp
  try dsimp only [Matrix.cons_val]
  try after_results_simp
  simp only [val1_main_arg8, val1_main_arg7, val1_main_arg6, val1_main_arg5, val1_main_v36, val1_main_v44, val1_main_v41] <;> rfl

theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72) = res_main_v72 (launchContents m c)
      ∧ r.2.mem ((c.tc : Thread nD τ).loc main_v71) = res_main_v71 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v72).trans ((congrFun (after_ops (launchContents m c)) (Proc.devRef .tc main_v72)).trans (val2_main_v72 (launchContents m c))),
      (h c main_v71).trans ((congrFun (after_ops (launchContents m c)) (Proc.devRef .tc main_v71)).trans (val2_main_v71 (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c))),
      (h c main_arg2).trans ((congrFun (after_ops (launchContents m c)) (Proc.devRef .tc main_arg2)).trans (val2_main_arg2 (launchContents m c))),
      (h c main_arg3).trans ((congrFun (after_ops (launchContents m c)) (Proc.devRef .tc main_arg3)).trans (val2_main_arg3 (launchContents m c))),
      (h c main_arg4).trans ((congrFun (after_ops (launchContents m c)) (Proc.devRef .tc main_arg4)).trans (val2_main_arg4 (launchContents m c))),
      (h c main_arg5).trans ((congrFun (after_ops (launchContents m c)) (Proc.devRef .tc main_arg5)).trans (val2_main_arg5 (launchContents m c))),
      (h c main_arg6).trans ((congrFun (after_ops (launchContents m c)) (Proc.devRef .tc main_arg6)).trans (val2_main_arg6 (launchContents m c))),
      (h c main_arg7).trans ((congrFun (after_ops (launchContents m c)) (Proc.devRef .tc main_arg7)).trans (val2_main_arg7 (launchContents m c))),
      (h c main_arg8).trans ((congrFun (after_ops (launchContents m c)) (Proc.devRef .tc main_arg8)).trans (val2_main_arg8 (launchContents m c)))⟩)
    (run_seq scopedRefs_eq scopedSems_eq defs main (fun _ => ops) main_eq (fun _ => ops_sub) m ρ fun _ => ops_fresh)

end Cert.Proof.RefRun

end
-- ==== Proof.Frames.lean ====
/- The frame and idealization conjuncts of `Cert.Claim`: each program terminates without a fault, leaves its arguments
   unchanged and every semaphore counter at zero; and the kernel's idealization names one constant. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Pre_finite
public import proofs.«01_k».proof.Proof.RefRun
public import Idealize.ShloMosaic.Adequacy
public import Idealize.ShloMosaic.Lib.StableHlo.RunHlo
public import Idealize.ShloMosaic.Lib.Quiescent

@[expose] public section

noncomputable section

namespace Cert.Proof

open Idealize.ShloMosaic Idealize.SL.Sem

/-- The kernel as printed is quiescent and keeps its arguments. -/
theorem frame_p : Cert.quiescent_Kernel (hKernel := Cert.Kernel.Gen.facts) :=
  fun m ρ _ => Cert.Kernel.Gen.frame m ρ

/-- The idealized kernel is quiescent and keeps its arguments. -/
theorem frame_pi : Cert.quiescent_KernelIdeal (hKernelIdeal := Cert.KernelIdeal.Gen.facts) :=
  fun m ρ _ => Cert.KernelIdeal.Gen.frame m ρ

/-- The same under the precondition that the value claim takes. -/
theorem frame_pi_pre : Cert.quiescent_KernelIdeal_pre_finite (hKernelIdeal := Cert.KernelIdeal.Gen.facts)
    (hPre_finite := Cert.Pre_finite.Gen.facts) :=
  fun m ρ _ => Cert.KernelIdeal.Gen.frame m ρ

/-- The reference ends quiescent: it has no semaphore, and its run leaves the arguments unchanged. -/
theorem frame_ri : Cert.quiescent_ReferenceIdeal (hReferenceIdeal := Cert.ReferenceIdeal.Gen.facts) :=
  fun m g _ => θ_run_mono (Cert.Proof.RefRun.run (F := Ideal) m g) fun r h =>
    ⟨fun c => (h c).2.2, sem_eq_zero_of_no_sems rfl r.2⟩

/-- The same under the precondition that the value claim takes. -/
theorem frame_ri_pre : Cert.quiescent_ReferenceIdeal_pre_finite (hReferenceIdeal := Cert.ReferenceIdeal.Gen.facts)
    (hPre_finite := Cert.Pre_finite.Gen.facts) :=
  fun m g _ => frame_ri m g trivial

/-- The idealization of the kernel replaces one rounded constant by the real number it stands for. -/
theorem preserves : Cert.preserves_Kernel_KernelIdeal :=
  IdealRules.named_const.statement Cert.KernelIdeal.κ "inv_sqrt_d" .f32 0x3E13CD3A#32 (((Real.sqrt 48)⁻¹ : ℝ) : EReal) rfl

end Cert.Proof

end
-- ==== Proof.KernelRun.lean ====
/- The kernel's run with its results: every weakly fair execution of the kernel's @main ends with the two result
   buffers at what the last host stretch leaves (`Gen.W7`), and with the arguments unchanged. The launch set-up is
   the one the generated frame states. -/
module

public import proofs.«01_k».proof.Proof.Gen.KernelIdeal.Frame

@[expose] public section

set_option maxRecDepth 16384

noncomputable section

namespace Cert.Proof.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unification through plain definitions
set_option backward.isDefEq.respectTransparency.types false in
/-- Every weakly fair execution of the kernel terminates with `main_v15` (selected) and `main_v14_0` (actions) at
    the contents `Gen.W7` gives them, and with every argument as launched. -/
theorem run : θ_run defs (onTc (τ := τ) (main (F := F))) ⟨m, fun _ => 0, ρ⟩ (fun r => ∀ c : Dev nD,
      r.2.mem ((c.tc : Thread nD τ).loc main_v15) = W7 m ρ c (Proc.devRef .tc main_v15)
      ∧ r.2.mem ((c.tc : Thread nD τ).loc main_v14_0) = W7 m ρ c (Proc.devRef .tc main_v14_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c =>
      ⟨h c _ (mem_uc main_v15 (by decide)), h c _ (mem_uc main_v14_0 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.Proof.KernelRun

end
-- ==== Proof.Words1.lean ====
/- The column permutation's table, entry by entry. -/
module

public import proofs.«01_k».proof.KernelIdeal

@[expose] public section

set_option maxRecDepth 200000
set_option Elab.async false

namespace Cert.Proof.Tables

open Cert.KernelIdeal

/-- Entry `i` of the column permutation: one where row 64c + 16a + b meets column 48a + 3b + c, zero elsewhere. -/
def word1 (i : Nat) : BitVec 32 :=
  if i / 192 / 64 = i % 192 % 3 ∧ i / 192 % 64 / 16 = i % 192 / 48 ∧ i / 192 % 16 = i % 192 % 48 / 3 then 0x3F800000#32
  else 0x00000000#32

/-! The table holds these words, 4096 entries a theorem. -/

theorem words1_0 : (List.range 4096).all (fun k => lit1t (4096 * 0 + k) == word1 (4096 * 0 + k)) = true := by
  decide +kernel

theorem words1_1 : (List.range 4096).all (fun k => lit1t (4096 * 1 + k) == word1 (4096 * 1 + k)) = true := by
  decide +kernel

theorem words1_2 : (List.range 4096).all (fun k => lit1t (4096 * 2 + k) == word1 (4096 * 2 + k)) = true := by
  decide +kernel

theorem words1_3 : (List.range 4096).all (fun k => lit1t (4096 * 3 + k) == word1 (4096 * 3 + k)) = true := by
  decide +kernel

theorem words1_4 : (List.range 4096).all (fun k => lit1t (4096 * 4 + k) == word1 (4096 * 4 + k)) = true := by
  decide +kernel

theorem words1_5 : (List.range 4096).all (fun k => lit1t (4096 * 5 + k) == word1 (4096 * 5 + k)) = true := by
  decide +kernel

theorem words1_6 : (List.range 4096).all (fun k => lit1t (4096 * 6 + k) == word1 (4096 * 6 + k)) = true := by
  decide +kernel

theorem words1_7 : (List.range 4096).all (fun k => lit1t (4096 * 7 + k) == word1 (4096 * 7 + k)) = true := by
  decide +kernel

theorem words1_8 : (List.range 4096).all (fun k => lit1t (4096 * 8 + k) == word1 (4096 * 8 + k)) = true := by
  decide +kernel

end Cert.Proof.Tables
-- ==== Proof.Words2.lean ====
/- The patch permutation's table, entry by entry: the first half; and the averaging mask's. -/
module

public import proofs.«01_k».proof.KernelIdeal

@[expose] public section

set_option maxRecDepth 200000
set_option Elab.async false

namespace Cert.Proof.Tables

open Cert.KernelIdeal

/-- Entry `i` of the patch permutation: one where row p meets column 64 (p mod 4) + p / 4, zero elsewhere. -/
def word2 (i : Nat) : BitVec 32 := if i % 256 = 64 * (i / 256 % 4) + i / 256 / 4 then 0x3F800000#32 else 0x00000000#32

/-! The table holds these words, 4096 entries a theorem. -/

theorem words2_0 : (List.range 4096).all (fun k => lit2t (4096 * 0 + k) == word2 (4096 * 0 + k)) = true := by
  decide +kernel

theorem words2_1 : (List.range 4096).all (fun k => lit2t (4096 * 1 + k) == word2 (4096 * 1 + k)) = true := by
  decide +kernel

theorem words2_2 : (List.range 4096).all (fun k => lit2t (4096 * 2 + k) == word2 (4096 * 2 + k)) = true := by
  decide +kernel

theorem words2_3 : (List.range 4096).all (fun k => lit2t (4096 * 3 + k) == word2 (4096 * 3 + k)) = true := by
  decide +kernel

theorem words2_4 : (List.range 4096).all (fun k => lit2t (4096 * 4 + k) == word2 (4096 * 4 + k)) = true := by
  decide +kernel

theorem words2_5 : (List.range 4096).all (fun k => lit2t (4096 * 5 + k) == word2 (4096 * 5 + k)) = true := by
  decide +kernel

theorem words2_6 : (List.range 4096).all (fun k => lit2t (4096 * 6 + k) == word2 (4096 * 6 + k)) = true := by
  decide +kernel

theorem words2_7 : (List.range 4096).all (fun k => lit2t (4096 * 7 + k) == word2 (4096 * 7 + k)) = true := by
  decide +kernel

/-- Entry `i` of the averaging mask is one where the column's channel is the row, for the first three rows. -/
theorem words0 : ∀ i : Fin 384, lit0 i = (if i.val / 48 < 3 ∧ i.val % 48 % 3 = i.val / 48 then 0x3F800000#32 else 0x00000000#32) := by
  decide +kernel

end Cert.Proof.Tables
-- ==== Proof.Words3.lean ====
/- The patch permutation's table, entry by entry: the second half. -/
module

public import proofs.«01_k».proof.Proof.Words2

@[expose] public section

set_option maxRecDepth 200000
set_option Elab.async false

namespace Cert.Proof.Tables

open Cert.KernelIdeal

theorem words2_8 : (List.range 4096).all (fun k => lit2t (4096 * 8 + k) == word2 (4096 * 8 + k)) = true := by
  decide +kernel

theorem words2_9 : (List.range 4096).all (fun k => lit2t (4096 * 9 + k) == word2 (4096 * 9 + k)) = true := by
  decide +kernel

theorem words2_10 : (List.range 4096).all (fun k => lit2t (4096 * 10 + k) == word2 (4096 * 10 + k)) = true := by
  decide +kernel

theorem words2_11 : (List.range 4096).all (fun k => lit2t (4096 * 11 + k) == word2 (4096 * 11 + k)) = true := by
  decide +kernel

theorem words2_12 : (List.range 4096).all (fun k => lit2t (4096 * 12 + k) == word2 (4096 * 12 + k)) = true := by
  decide +kernel

theorem words2_13 : (List.range 4096).all (fun k => lit2t (4096 * 13 + k) == word2 (4096 * 13 + k)) = true := by
  decide +kernel

theorem words2_14 : (List.range 4096).all (fun k => lit2t (4096 * 14 + k) == word2 (4096 * 14 + k)) = true := by
  decide +kernel

theorem words2_15 : (List.range 4096).all (fun k => lit2t (4096 * 15 + k) == word2 (4096 * 15 + k)) = true := by
  decide +kernel

end Cert.Proof.Tables
-- ==== Proof.Consts.lean ====
/- The values of the constants both programs hold. -/
module

public import Idealize.ShloMosaic.PureOps.Ideal.Laws

@[expose] public section

noncomputable section

namespace Cert.Proof

open Idealize.ShloMosaic

theorem ofBits_bot : Ideal.ofBits .f32 0xFF800000#32 = ⊥ := by simp [Ideal.ofBits, Ideal.ieee]
theorem ofBits_zero : Ideal.ofBits .f32 0x00000000#32 = 0 := by simp [Ideal.ofBits, Ideal.ieee]
theorem ofBits_one : Ideal.ofBits .f32 0x3F800000#32 = 1 := by
  simp [Ideal.ofBits, Ideal.ieee]; rw [← EReal.coe_mul, ← EReal.coe_one]; congr 1; norm_num
theorem ofBits_neg_one : Ideal.ofBits .f32 0xBF800000#32 = -1 := by
  simp [Ideal.ofBits, Ideal.ieee]; rw [← EReal.coe_mul, ← EReal.coe_one]; congr 1; norm_num
theorem ofBits_two : Ideal.ofBits .f32 0x40000000#32 = ((2 : ℝ) : EReal) := by simp only [Ideal.ofBits, Ideal.ieee]; simp; rw [← EReal.coe_mul]; norm_num
theorem ofBits_64 : Ideal.ofBits .f32 0x42800000#32 = ((64 : ℝ) : EReal) := by simp only [Ideal.ofBits, Ideal.ieee]; simp; rw [← EReal.coe_mul]; norm_num
theorem ofBits_inv64 : Ideal.ofBits .f32 0x3C800000#32 = ((64⁻¹ : ℝ) : EReal) := by simp only [Ideal.ofBits, Ideal.ieee]; simp; rw [← EReal.coe_mul]; norm_num
theorem ofBits_16 : Ideal.ofBits .f32 0x41800000#32 = ((16 : ℝ) : EReal) := by simp only [Ideal.ofBits, Ideal.ieee]; simp; rw [← EReal.coe_mul]; norm_num
theorem ofBits_255 : Ideal.ofBits .f32 0x437F0000#32 = ((255 : ℝ) : EReal) := by simp only [Ideal.ofBits, Ideal.ieee]; simp; rw [← EReal.coe_mul]; norm_num
theorem ofBits_4080 : Ideal.ofBits .f32 0x457F0000#32 = ((4080 : ℝ) : EReal) := by simp only [Ideal.ofBits, Ideal.ieee]; simp; rw [← EReal.coe_mul]; norm_num
theorem ofBits_48 : Ideal.ofBits .f32 0x42400000#32 = ((48 : ℝ) : EReal) := by simp only [Ideal.ofBits, Ideal.ieee]; simp; rw [← EReal.coe_mul]; norm_num

end Cert.Proof
-- ==== Proof.Host.lean ====
/- What the host's stretches leave for the three stages, read at an index. -/
module

public import proofs.«01_k».proof.Proof.Gen.KernelIdeal.Frame
public import proofs.«01_k».proof.Proof.Words1
public import proofs.«01_k».proof.Proof.Words3
public import proofs.«01_k».proof.Proof.Consts
public import Idealize.ShloMosaic.Lib.StableHlo.ReadAt
public import Idealize.ShloMosaic.Lib.Pointwise

@[expose] public section

set_option maxRecDepth 16384

noncomputable section

namespace Cert.Proof.Host

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg) (c : Dev nD)

/-- The input with the image last: row `h`, channel and column in one. -/
theorem rows_at (h : Fin 64) (k : Fin 192) (n : Fin 256) :
    (W1 m ρ c (Proc.devRef .tc main_v1) : S64x192x256.Idx → EReal) (ix3 h k n)
      = (m ((c : Thread nD τ).loc main_arg0) : S256x64x64x3.Idx → EReal)
          (ix4 n h ⟨k % 64, Nat.mod_lt _ (by decide)⟩ ⟨k / 64, by omega⟩) := by
  show (StableHlo.after hostOps0 (W0 m ρ c) (Proc.devRef .tc main_v1) : S64x192x256.Idx → EReal) (ix3 h k n) = _
  after_reads_at

theorem perm1_at (k j : Fin 192) :
    (W1 m ρ c (Proc.devRef .tc main_cst_0) : S192x192.Idx → EReal) (ix2 k j)
      = Ideal.ofBits .f32 (lit1 (S192x192.rowMajor (ix2 k j))) := by
  show (StableHlo.after hostOps0 (W0 m ρ c) (Proc.devRef .tc main_cst_0) : S192x192.Idx → EReal) (ix2 k j) = _
  after_reads_at

theorem mask_at (k : Fin 8) (j : Fin 48) :
    (W1 m ρ c (Proc.devRef .tc main_v3) : S8x48.Idx → EReal) (ix2 k j)
      = Ideal.div (Ideal.ofBits .f32 (lit0 (S8x48.rowMajor (ix2 k j)))) ((4080 : ℝ) : EReal) := by
  show (StableHlo.after hostOps0 (W0 m ρ c) (Proc.devRef .tc main_v3) : S8x48.Idx → EReal) (ix2 k j) = _
  after_reads_at
  rw [ofBits_4080]

theorem perm2_at (p k : Fin 256) :
    (W1 m ρ c (Proc.devRef .tc main_cst_1) : S256x256.Idx → EReal) (ix2 p k)
      = Ideal.ofBits .f32 (lit2 (S256x256.rowMajor (ix2 p k))) := by
  show (StableHlo.after hostOps0 (W0 m ρ c) (Proc.devRef .tc main_cst_1) : S256x256.Idx → EReal) (ix2 p k) = _
  after_reads_at

/-! The second stage's weights, transposed, and biases. -/

theorem wq_at (k : Fin 48) (d : Fin 256) :
    (W3 m ρ c (Proc.devRef .tc main_v5) : S48x256.Idx → EReal) (ix2 k d)
      = (m ((c : Thread nD τ).loc main_arg1) : S256x48.Idx → EReal) (ix2 d k) := by
  rw [← W2_args m ρ c main_arg1 (by decide)]
  show (StableHlo.after hostOps1 (W2 m ρ c) (Proc.devRef .tc main_v5) : S48x256.Idx → EReal) (ix2 k d) = _
  after_reads_at
theorem bq_at (d : Fin 256) :
    (W3 m ρ c (Proc.devRef .tc main_v6) : S1x256.Idx → EReal) (ix2 0 d)
      = (m ((c : Thread nD τ).loc main_arg2) : S256.Idx → EReal) (ix1 d) := by
  rw [← W2_args m ρ c main_arg2 (by decide)]
  show (StableHlo.after hostOps1 (W2 m ρ c) (Proc.devRef .tc main_v6) : S1x256.Idx → EReal) (ix2 0 d) = _
  after_reads_at
theorem wk_at (k : Fin 48) (d : Fin 256) :
    (W3 m ρ c (Proc.devRef .tc main_v7) : S48x256.Idx → EReal) (ix2 k d)
      = (m ((c : Thread nD τ).loc main_arg3) : S256x48.Idx → EReal) (ix2 d k) := by
  rw [← W2_args m ρ c main_arg3 (by decide)]
  show (StableHlo.after hostOps1 (W2 m ρ c) (Proc.devRef .tc main_v7) : S48x256.Idx → EReal) (ix2 k d) = _
  after_reads_at
theorem bk_at (d : Fin 256) :
    (W3 m ρ c (Proc.devRef .tc main_v8) : S1x256.Idx → EReal) (ix2 0 d)
      = (m ((c : Thread nD τ).loc main_arg4) : S256.Idx → EReal) (ix1 d) := by
  rw [← W2_args m ρ c main_arg4 (by decide)]
  show (StableHlo.after hostOps1 (W2 m ρ c) (Proc.devRef .tc main_v8) : S1x256.Idx → EReal) (ix2 0 d) = _
  after_reads_at

/-! The third stage's weights, transposed, and biases. -/

theorem w1_at (f : Fin 40) (h : Fin 6) :
    (W5 m ρ c (Proc.devRef .tc main_v10) : S40x6.Idx → EReal) (ix2 f h)
      = (m ((c : Thread nD τ).loc main_arg5) : S6x40.Idx → EReal) (ix2 h f) := by
  rw [← W4_args m ρ c main_arg5 (by decide)]
  show (StableHlo.after hostOps2 (W4 m ρ c) (Proc.devRef .tc main_v10) : S40x6.Idx → EReal) (ix2 f h) = _
  after_reads_at
theorem b1_at (h : Fin 6) :
    (W5 m ρ c (Proc.devRef .tc main_v11) : S1x6.Idx → EReal) (ix2 0 h)
      = (m ((c : Thread nD τ).loc main_arg6) : S6.Idx → EReal) (ix1 h) := by
  rw [← W4_args m ρ c main_arg6 (by decide)]
  show (StableHlo.after hostOps2 (W4 m ρ c) (Proc.devRef .tc main_v11) : S1x6.Idx → EReal) (ix2 0 h) = _
  after_reads_at
theorem w2_at (h : Fin 6) (a : Fin 15) :
    (W5 m ρ c (Proc.devRef .tc main_v12) : S6x15.Idx → EReal) (ix2 h a)
      = (m ((c : Thread nD τ).loc main_arg7) : S15x6.Idx → EReal) (ix2 a h) := by
  rw [← W4_args m ρ c main_arg7 (by decide)]
  show (StableHlo.after hostOps2 (W4 m ρ c) (Proc.devRef .tc main_v12) : S6x15.Idx → EReal) (ix2 h a) = _
  after_reads_at
theorem b2_at (a : Fin 15) :
    (W5 m ρ c (Proc.devRef .tc main_v13) : S1x15.Idx → EReal) (ix2 0 a)
      = (m ((c : Thread nD τ).loc main_arg8) : S15.Idx → EReal) (ix1 a) := by
  rw [← W4_args m ρ c main_arg8 (by decide)]
  show (StableHlo.after hostOps2 (W4 m ρ c) (Proc.devRef .tc main_v13) : S1x15.Idx → EReal) (ix2 0 a) = _
  after_reads_at

/-- The last stretch drops the unit axis of the selected actions. -/
theorem selected_at (n : Fin 256) :
    (W7 m ρ c (Proc.devRef .tc main_v15) : S256.Idx → BitVec 32) (ix1 n)
      = (W6 m ρ c (Proc.devRef .tc main_v14_1) : S1x256.Idx → BitVec 32) (ix2 0 n) := by
  show (StableHlo.after hostOps3 (W6 m ρ c) (Proc.devRef .tc main_v15) : S256.Idx → BitVec 32) (ix1 n) = _
  after_reads_at

end Cert.Proof.Host
-- ==== Proof.Tables.lean ====
/- The three tables, read at an index. -/
module

public import proofs.«01_k».proof.Proof.Host

@[expose] public section

set_option maxRecDepth 16384

noncomputable section

namespace Cert.Proof.Tables

open Cert.KernelIdeal Cert.KernelIdeal.Gen
open Idealize.ShloMosaic Idealize.ShloMosaic.TcCoe

/-- A chunk of a table that agrees word by word gives each word. -/
theorem word_of_chunk {t w : ℕ → BitVec 32} {q : ℕ}
    (h : (List.range 4096).all (fun k => t (4096 * q + k) == w (4096 * q + k)) = true) (i : ℕ) (hi : i / 4096 = q) :
    t i = w i := by
  have := List.all_eq_true.mp h (i % 4096) (List.mem_range.mpr (Nat.mod_lt _ (by decide)))
  rw [beq_iff_eq, show 4096 * q + i % 4096 = i by omega] at this
  exact this

theorem lit1t_eq (i : ℕ) (hi : i < 36864) : lit1t i = word1 i := by
  have hq : i / 4096 < 9 := by omega
  obtain ⟨q, hq'⟩ : ∃ q, i / 4096 = q := ⟨_, rfl⟩
  rw [hq'] at hq
  interval_cases q
  · exact word_of_chunk words1_0 i hq'
  · exact word_of_chunk words1_1 i hq'
  · exact word_of_chunk words1_2 i hq'
  · exact word_of_chunk words1_3 i hq'
  · exact word_of_chunk words1_4 i hq'
  · exact word_of_chunk words1_5 i hq'
  · exact word_of_chunk words1_6 i hq'
  · exact word_of_chunk words1_7 i hq'
  · exact word_of_chunk words1_8 i hq'

theorem lit2t_eq (i : ℕ) (hi : i < 65536) : lit2t i = word2 i := by
  have hq : i / 4096 < 16 := by omega
  obtain ⟨q, hq'⟩ : ∃ q, i / 4096 = q := ⟨_, rfl⟩
  rw [hq'] at hq
  interval_cases q
  · exact word_of_chunk words2_0 i hq'
  · exact word_of_chunk words2_1 i hq'
  · exact word_of_chunk words2_2 i hq'
  · exact word_of_chunk words2_3 i hq'
  · exact word_of_chunk words2_4 i hq'
  · exact word_of_chunk words2_5 i hq'
  · exact word_of_chunk words2_6 i hq'
  · exact word_of_chunk words2_7 i hq'
  · exact word_of_chunk words2_8 i hq'
  · exact word_of_chunk words2_9 i hq'
  · exact word_of_chunk words2_10 i hq'
  · exact word_of_chunk words2_11 i hq'
  · exact word_of_chunk words2_12 i hq'
  · exact word_of_chunk words2_13 i hq'
  · exact word_of_chunk words2_14 i hq'
  · exact word_of_chunk words2_15 i hq'

/-- The row-major position of a rank-2 index. -/
theorem position {a b : ℕ} (i : Fin a) (j : Fin b) :
    ((⟨2, ![a, b]⟩ : Shape).rowMajor (ix2 i j) : ℕ) = i * b + j := by
  show ((Shape.rowMajorPi ![a, b] (ix2 i j)).val : ℕ) = _
  show (i : ℕ) * (b * 1) + ((j : ℕ) * 1 + 0) = _
  rw [Nat.mul_one, Nat.mul_one, Nat.add_zero]

variable (m : (ℓ : Loc nD τ sig) → Buf (Elt Ideal) ℓ) (ρ : Dev nD → PrngReg) (c : Dev nD)

/-- The column permutation: row 64c + 16a + b meets column 48a + 3b + c. -/
theorem perm1 (k j : Fin 192) :
    (W1 m ρ c (Proc.devRef .tc main_cst_0) : S192x192.Idx → EReal) (ix2 k j)
      = if k.val / 64 = j.val % 3 ∧ k.val % 64 / 16 = j.val / 48 ∧ k.val % 16 = j.val % 48 / 3 then (1 : EReal) else 0 := by
  rw [Host.perm1_at]
  have hp : (S192x192.rowMajor (ix2 k j) : ℕ) = k * 192 + j := position k j
  have e : lit1 (S192x192.rowMajor (ix2 k j)) = word1 (k * 192 + j) := by
    show lit1t (S192x192.rowMajor (ix2 k j) : ℕ) = _
    rw [hp]
    exact lit1t_eq _ (by omega)
  have h1 : (k * 192 + j : ℕ) / 192 = k := by omega
  have h2 : (k * 192 + j : ℕ) % 192 = j := by omega
  rw [e]
  unfold word1
  rw [h1, h2, apply_ite (Ideal.ofBits .f32), ofBits_one, ofBits_zero]

/-- The patch permutation: row p meets column 64 (p mod 4) + p / 4. -/
theorem perm2 (p k : Fin 256) :
    (W1 m ρ c (Proc.devRef .tc main_cst_1) : S256x256.Idx → EReal) (ix2 p k)
      = if k.val = 64 * (p.val % 4) + p.val / 4 then (1 : EReal) else 0 := by
  rw [Host.perm2_at]
  have hp : (S256x256.rowMajor (ix2 p k) : ℕ) = p * 256 + k := position p k
  have e : lit2 (S256x256.rowMajor (ix2 p k)) = word2 (p * 256 + k) := by
    show lit2t (S256x256.rowMajor (ix2 p k) : ℕ) = _
    rw [hp]
    exact lit2t_eq _ (by omega)
  have h1 : (p * 256 + k : ℕ) / 256 = p := by omega
  have h2 : (p * 256 + k : ℕ) % 256 = k := by omega
  rw [e]
  unfold word2
  rw [h1, h2, apply_ite (Ideal.ofBits .f32), ofBits_one, ofBits_zero]

/-- The averaging mask: 1/4080 where the column's channel is the row. -/
theorem mask (k : Fin 8) (j : Fin 48) :
    (W1 m ρ c (Proc.devRef .tc main_v3) : S8x48.Idx → EReal) (ix2 k j)
      = if k.val < 3 ∧ j.val % 3 = k then (((4080 : ℝ)⁻¹ : ℝ) : EReal) else 0 := by
  rw [Host.mask_at]
  have hp : (S8x48.rowMajor (ix2 k j) : ℕ) = k * 48 + j := position k j
  have h1 : (k * 48 + j : ℕ) / 48 = k := by omega
  have h2 : (k * 48 + j : ℕ) % 48 = j := by omega
  have e : lit0 (S8x48.rowMajor (ix2 k j)) = _ := words0 (S8x48.rowMajor (ix2 k j))
  rw [e, hp, h1, h2, apply_ite (Ideal.ofBits .f32), ofBits_one, ofBits_zero, Ideal.div_coe (by norm_num)]
  split
  · next h =>
    rw [one_mul, one_div]
  · next h =>
    rw [zero_mul]

end Cert.Proof.Tables
-- ==== Proof.Stage1.lean ====
/- The first two stages' bodies in named steps. Stage 0 multiplies a pixel row by the permutation of its columns;
   stage 1 orders an image's patches, projects them to queries and keys, and takes the attention's column sums and the
   patches' channel means. The output buffers of the generated frame are stated through these steps. -/
module

public import proofs.«01_k».proof.Proof.Gen.KernelIdeal.Frame

@[expose] public section

set_option maxRecDepth 16384

noncomputable section

namespace Cert.Proof.Stage1

open Cert.KernelIdeal Cert.KernelIdeal.Gen
open Idealize.ShloMosaic Idealize.ShloMosaic.TcCoe

variable {F : FTy → Type} [FloatOps F] [Named F]

/-- Stage 0 on one pixel row of every image: the row's columns through a matrix, image by image. -/
def permute (v : Vec F S1x192x256 .f32) (w : Vec F S192x192 .f32) : FVec F S1x256x192 .f32 :=
  shapeCast S1x256x192 (matmul dot_S192x256_S192x192_S256x192_0_0_1_1_n_n none
    (shapeCast S192x256 v shapeCasts_S1x192x256_S192x256) w (constant S256x192 .f32 0x00000000#32))
    shapeCasts_S256x192_S1x256x192

/-- The buffer stage 0 leaves: its eight rows through the matrix. -/
theorem out0 (x0 : Vec F S8x192x256 .f32) (x1 : Vec F S192x192 .f32) : out0_2 x0 x1 = View.canon [
    ⟨r0_16, permute (View.ld x0 r0_15) (View.ld x1 r0_1)⟩,
    ⟨r0_14, permute (View.ld x0 r0_13) (View.ld x1 r0_1)⟩,
    ⟨r0_12, permute (View.ld x0 r0_11) (View.ld x1 r0_1)⟩,
    ⟨r0_10, permute (View.ld x0 r0_9) (View.ld x1 r0_1)⟩,
    ⟨r0_8, permute (View.ld x0 r0_7) (View.ld x1 r0_1)⟩,
    ⟨r0_6, permute (View.ld x0 r0_5) (View.ld x1 r0_1)⟩,
    ⟨r0_4, permute (View.ld x0 r0_3) (View.ld x1 r0_1)⟩,
    ⟨r0_2, permute (View.ld x0 r0_0) (View.ld x1 r0_1)⟩] := rfl

/-- An image's four groups of 48 columns, stacked. -/
def stack (v : Vec F S64x1x192 .f32) : FVec F S256x48 .f32 :=
  concatenate S256x48 0
    [⟨S64x48, extractStridedSlice S64x48 ![0, 0] (shapeCast S64x192 v shapeCasts_S64x1x192_S64x192) slices_S64x192_o0_0_S64x48⟩,
     ⟨S64x48, extractStridedSlice S64x48 ![0, 48] (shapeCast S64x192 v shapeCasts_S64x1x192_S64x192) slices_S64x192_o0_48_S64x48⟩,
     ⟨S64x48, extractStridedSlice S64x48 ![0, 96] (shapeCast S64x192 v shapeCasts_S64x1x192_S64x192) slices_S64x192_o0_96_S64x48⟩,
     ⟨S64x48, extractStridedSlice S64x48 ![0, 144] (shapeCast S64x192 v shapeCasts_S64x1x192_S64x192) slices_S64x192_o0_144_S64x48⟩]
    concatenates_S64x48_S64x48_S64x48_S64x48_S256x48_d0

/-- The stacked groups through the row permutation: the image's patches. -/
def patches (v : Vec F S64x1x192 .f32) (w : Vec F S256x256 .f32) : FVec F S256x48 .f32 :=
  matmul dot_S256x256_S256x48_S256x48_1_0_0_1_n_n none w (stack v) (constant S256x48 .f32 0x00000000#32)

/-- Patches through a dense layer. -/
def project (x : FVec F S256x48 .f32) (w : Vec F S48x256 .f32) (b : Vec F S1x256 .f32) : FVec F S256x256 .f32 :=
  addf (matmul dot_S256x48_S48x256_S256x256_1_0_0_1_n_n none x (shapeCast S48x256 w shapeCasts_S48x256_S48x256)
      (constant S256x256 .f32 0x00000000#32))
    (broadcastTo S256x256 (shapeCast S1x256 b shapeCasts_S1x256_S1x256) broadcasts_S1x256_S256x256)

/-- Queries times keys, scaled. -/
def attend (q k : FVec F S256x256 .f32) : FVec F S256x256 .f32 :=
  mulf (matmul dot_S256x256_S256x256_S256x256_1_0_0_1_n_n none q k (constant S256x256 .f32 0x00000000#32))
    (broadcast S256x256 (Named.named κ "inv_sqrt_d" 0x3E13CD3A#32))

/-- The exponentials of a row less its maximum. -/
def raised (a : FVec F S256x256 .f32) : FVec F S256x256 .f32 :=
  exp (subf a (broadcastTo S256x256 (shapeCast S256x1 (multiReduction .maximumf [1] S256 a 0xFF800000#32
    reduces_S256x256_S256 (.inl rfl) rfl) shapeCasts_S256_S256x1) broadcasts_S256x1_S256x256))

/-- The column sums of the rows' softmax. -/
def shares (a : FVec F S256x256 .f32) : FVec F S256 .f32 :=
  multiReduction .add [0] S256 (divf (raised a) (broadcastTo S256x256 (shapeCast S256x1 (multiReduction .add [1] S256
    (raised a) 0x00000000#32 reduces_S256x256_S256 (.inl rfl) rfl) shapeCasts_S256_S256x1) broadcasts_S256x1_S256x256))
    0x00000000#32 reduces_S256x256_S256_2 (.inl rfl) rfl

/-- One image's column sums from its patches and the layers. -/
def scored (x : FVec F S256x48 .f32) (wq : Vec F S48x256 .f32) (bq : Vec F S1x256 .f32) (wk : Vec F S48x256 .f32)
    (bk : Vec F S1x256 .f32) : FVec F S1x1x256 .f32 :=
  shapeCast S1x1x256 (shares (attend (project x wq bq) (project x wk bk))) shapeCasts_S256_S1x1x256

/-- One image's channel means from its patches and the averaging table. -/
def means (x : FVec F S256x48 .f32) (w : Vec F S8x48 .f32) : FVec F S8x1x1x256 .f32 :=
  shapeCast S8x1x1x256 (matmul dot_S8x48_S256x48_S8x256_1_1_0_0_n_n none (shapeCast S8x48 w shapeCasts_S8x48_S8x48) x
    (constant S8x256 .f32 0x00000000#32)) shapeCasts_S8x256_S8x1x1x256

variable (x0 : Vec F S64x8x192 .f32) (x1 : Vec F S256x256 .f32) (x2 : Vec F S48x256 .f32) (x3 : Vec F S1x256 .f32)
  (x4 : Vec F S48x256 .f32) (x5 : Vec F S1x256 .f32) (x6 : Vec F S8x48 .f32)

/-- The buffer of column sums: one image per row. -/
theorem out7 : out1_7 x0 x1 x2 x3 x4 x5 x6 = View.canon [
    ⟨r1_26, scored (patches (View.ld x0 r1_25) (View.ld x1 r1_1)) (View.ld x2 r1_2) (View.ld x3 r1_3) (View.ld x4 r1_2) (View.ld x5 r1_3)⟩,
    ⟨r1_23, scored (patches (View.ld x0 r1_22) (View.ld x1 r1_1)) (View.ld x2 r1_2) (View.ld x3 r1_3) (View.ld x4 r1_2) (View.ld x5 r1_3)⟩,
    ⟨r1_20, scored (patches (View.ld x0 r1_19) (View.ld x1 r1_1)) (View.ld x2 r1_2) (View.ld x3 r1_3) (View.ld x4 r1_2) (View.ld x5 r1_3)⟩,
    ⟨r1_17, scored (patches (View.ld x0 r1_16) (View.ld x1 r1_1)) (View.ld x2 r1_2) (View.ld x3 r1_3) (View.ld x4 r1_2) (View.ld x5 r1_3)⟩,
    ⟨r1_14, scored (patches (View.ld x0 r1_13) (View.ld x1 r1_1)) (View.ld x2 r1_2) (View.ld x3 r1_3) (View.ld x4 r1_2) (View.ld x5 r1_3)⟩,
    ⟨r1_11, scored (patches (View.ld x0 r1_10) (View.ld x1 r1_1)) (View.ld x2 r1_2) (View.ld x3 r1_3) (View.ld x4 r1_2) (View.ld x5 r1_3)⟩,
    ⟨r1_8, scored (patches (View.ld x0 r1_7) (View.ld x1 r1_1)) (View.ld x2 r1_2) (View.ld x3 r1_3) (View.ld x4 r1_2) (View.ld x5 r1_3)⟩,
    ⟨r1_4, scored (patches (View.ld x0 r1_0) (View.ld x1 r1_1)) (View.ld x2 r1_2) (View.ld x3 r1_3) (View.ld x4 r1_2) (View.ld x5 r1_3)⟩] := rfl

/-- The buffer of channel means: one image per row of every channel. -/
theorem out8 : out1_8 x0 x1 x2 x3 x4 x5 x6 = View.canon [
    ⟨r1_27, means (patches (View.ld x0 r1_25) (View.ld x1 r1_1)) (View.ld x6 r1_5)⟩,
    ⟨r1_24, means (patches (View.ld x0 r1_22) (View.ld x1 r1_1)) (View.ld x6 r1_5)⟩,
    ⟨r1_21, means (patches (View.ld x0 r1_19) (View.ld x1 r1_1)) (View.ld x6 r1_5)⟩,
    ⟨r1_18, means (patches (View.ld x0 r1_16) (View.ld x1 r1_1)) (View.ld x6 r1_5)⟩,
    ⟨r1_15, means (patches (View.ld x0 r1_13) (View.ld x1 r1_1)) (View.ld x6 r1_5)⟩,
    ⟨r1_12, means (patches (View.ld x0 r1_10) (View.ld x1 r1_1)) (View.ld x6 r1_5)⟩,
    ⟨r1_9, means (patches (View.ld x0 r1_7) (View.ld x1 r1_1)) (View.ld x6 r1_5)⟩,
    ⟨r1_6, means (patches (View.ld x0 r1_0) (View.ld x1 r1_1)) (View.ld x6 r1_5)⟩] := rfl

end Cert.Proof.Stage1
-- ==== Proof.Array0.lean ====
/- What the first stage leaves: every pixel row through the column permutation. -/
module

public import proofs.«01_k».proof.Proof.Stage1
public import Idealize.ShloMosaic.Lib.Pipeline.ValueKit
public import Idealize.ShloMosaic.Lib.Pointwise

@[expose] public section

set_option maxRecDepth 16384

noncomputable section

namespace Cert.Proof.Stage1

open Cert.KernelIdeal Cert.KernelIdeal.Gen
open Idealize.ShloMosaic Idealize.ShloMosaic.TcCoe
open Idealize.ShloMosaic.Pipeline (Dat)

variable (V : (c : Dev nD) → (b : Ref sig .tc) → Buf (Elt Ideal) ((c : Thread nD τ).loc b))

/-- Stage 0's pixel rows, as the launch finds them. -/
abbrev in0 (c : Dev nD) : S64x192x256.Idx → EReal := V c (Pipeline.arrRef spec0 0)
/-- Stage 0's permutation matrix, as the launch finds it. -/
abbrev perm0 (c : Dev nD) : S192x192.Idx → EReal := V c (Pipeline.arrRef spec0 1)

theorem permute_apply (v : Vec Ideal S1x192x256 .f32) (w : Vec Ideal S192x192 .f32) (j : S1x256x192.Idx) :
    permute v w j = ∑ k : Fin 192, v (ix3 0 k (j 1)) * w (ix2 k (j 2)) := by
  pointwise [permute]

/-- What stage 0 leaves at pixel row `h`, image `n`, column `j`. -/
def rows0 (c : Dev nD) (i : S64x256x192.Idx) : EReal :=
  ∑ k : Fin 192, in0 V c (ix3 (i 0) k (i 1)) * perm0 V c (ix2 k (i 2))

theorem index0_0 : ∀ t : Fin cfg0.N, win0_0.index t = ![t.val, 0, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![t.val, 0, 0] := (by decide +kernel : ∀ t : Fin grid0.N, _)

theorem block0_0 (c : Dev nD) (t : Fin cfg0.N) (y : S8x192x256.Idx) (i : S64x192x256.Idx)
    (h0 : (i 0 : ℕ) = t * 8 + y 0) (h1 : (i 1 : ℕ) = y 1) (h2 : (i 2 : ℕ) = y 2) : iblk0 V c 0 t y = in0 V c i := by
  blk_ext [iblk0, index0_0 t]

theorem block0_1 (c : Dev nD) (t : Fin cfg0.N) (y : S192x192.Idx) : iblk0 V c 1 t y = perm0 V c y := by
  blk_ext [iblk0, index0_1 t]

/-- A pixel row of stage 0's block, at an index of the array. -/
theorem load0_0 (c : Dev nD) (t : Fin cfg0.N) (o : ℕ) (inb) (x : S1x192x256.Idx) (i : S64x192x256.Idx)
    (h0 : (i 0 : ℕ) = t * 8 + (o + x 0)) (h1 : (i 1 : ℕ) = x 1) (h2 : (i 2 : ℕ) = x 2) :
    View.ld (iblk0 V c 0 t) (Rect.unit (s := S8x192x256) ![o, 0, 0] S1x192x256.size inb) x = in0 V c i := by
  rw [View.ld_apply]
  apply block0_0
  · rw [Rect.idx_unit_val]; exact h0
  · rw [Rect.idx_unit_val]; exact h1.trans (zero_add _).symm
  · rw [Rect.idx_unit_val]; exact h2.trans (zero_add _).symm

theorem load0_1 (c : Dev nD) (t : Fin cfg0.N) (inb) (x : S192x192.Idx) :
    View.ld (iblk0 V c 1 t) (Rect.unit (s := S192x192) ![0, 0] S192x192.size inb) x = perm0 V c x := by
  refine (View.ld_unit_apply_of (iblk0 V c 1 t) ![0, 0] S192x192.size inb x x (fun a => ?_)).trans (block0_1 V c t x)
  fin_cases a <;> exact (zero_add _).symm

/-- Stage 0 leaves every pixel row of every image with its columns through the matrix. -/
theorem array0 (c : Dev nD) : (dat0 V c).arrAt 2 cfg0.N = rows0 V c := by
  refine (dat0 V c).arrAt_eq_of_covers 2 _ (by decide +kernel) fun t hf y => ?_
  blk_simp
  rw [after0_2, out0]
  canon_tiles x h
  all_goals
    rw [permute_apply]
    unfold rows0
    refine Finset.sum_congr rfl fun k _ => ?_
    refine congrArg₂ _ ?_ ?_
    · apply load0_0 <;> (blk_simp [index0_2 t]; try omega)
    · rw [load0_1]
      refine congrArg _ ?_
      blk_ext [index0_2 t]
end Cert.Proof.Stage1
-- ==== Proof.Array1.lean ====
/- What the second stage leaves: every image's column sums and channel means, from the image's own rows. -/
module

public import proofs.«01_k».proof.Proof.Stage1
public import Idealize.ShloMosaic.Lib.Pipeline.ValueKit
public import Idealize.ShloMosaic.Lib.Pointwise

@[expose] public section

set_option maxRecDepth 16384

noncomputable section

namespace Cert.Proof.Stage1

open Cert.KernelIdeal Cert.KernelIdeal.Gen
open Idealize.ShloMosaic Idealize.ShloMosaic.TcCoe
open Idealize.ShloMosaic.Pipeline (Dat)

variable (V : (c : Dev nD) → (b : Ref sig .tc) → Buf (Elt Ideal) ((c : Thread nD τ).loc b))

/-- Image `n` of the rows stage 1 reads. -/
def image (c : Dev nD) (n : Fin 256) : Vec Ideal S64x1x192 .f32 :=
  fun i => (V c (Pipeline.arrRef spec1 0) : S64x256x192.Idx → EReal) (ix3 (i 0) n (i 2))
/-- Image `n`'s patches. -/
def patchesOf (c : Dev nD) (n : Fin 256) : FVec Ideal S256x48 .f32 :=
  patches (image V c n) (V c (Pipeline.arrRef spec1 1))

theorem index1_0 : ∀ t : Fin cfg1.N, win1_0.index t = ![0, t.val, 0] := (by decide +kernel : ∀ t : Fin grid1.N, _)
theorem index1_7 : ∀ t : Fin cfg1.N, win1_7.index t = ![t.val, 0, 0] := (by decide +kernel : ∀ t : Fin grid1.N, _)
theorem index1_8 : ∀ t : Fin cfg1.N, win1_8.index t = ![0, t.val, 0, 0] := (by decide +kernel : ∀ t : Fin grid1.N, _)

theorem block1_0 (c : Dev nD) (t : Fin cfg1.N) (y : S64x8x192.Idx) (i : S64x256x192.Idx)
    (h0 : (i 0 : ℕ) = y 0) (h1 : (i 1 : ℕ) = t * 8 + y 1) (h2 : (i 2 : ℕ) = y 2) :
    iblk1 V c 0 t y = (V c (Pipeline.arrRef spec1 0) : S64x256x192.Idx → EReal) i := by
  blk_ext [iblk1, index1_0 t]

/-- The rows of one image of the block are that image's. -/
theorem load1_0 (c : Dev nD) (t : Fin cfg1.N) (o : ℕ) (inb) (n : Fin 256) (hn : (n : ℕ) = t * 8 + o) :
    View.ld (iblk1 V c 0 t) (Rect.unit (s := S64x8x192) ![0, o, 0] S64x1x192.size inb) = image V c n := by
  funext x
  rw [View.ld_apply]
  apply block1_0
  · rw [Rect.idx_unit_val]; exact (zero_add _).symm
  · rw [Rect.idx_unit_val]
    have h : (x 1 : ℕ) < 1 := (x 1).isLt
    show (n : ℕ) = t * 8 + (o + x 1)
    omega
  · rw [Rect.idx_unit_val]; exact (zero_add _).symm

theorem index1_2 : ∀ t : Fin cfg1.N, win1_2.index t = ![0, 0] := (by decide +kernel : ∀ t : Fin grid1.N, _)

theorem load1_2 (c : Dev nD) (t : Fin cfg1.N) (inb) :
    View.ld (iblk1 V c 2 t) (Rect.unit (s := S48x256) ![0, 0] S48x256.size inb) = V c (Pipeline.arrRef spec1 2) := by
  funext x
  refine (View.ld_unit_apply_of (iblk1 V c 2 t) ![0, 0] S48x256.size inb x x (fun a => ?_)).trans ?_
  · fin_cases a <;> exact (zero_add _).symm
  · blk_ext [iblk1, index1_2 t]

theorem index1_3 : ∀ t : Fin cfg1.N, win1_3.index t = ![0, 0] := (by decide +kernel : ∀ t : Fin grid1.N, _)

theorem load1_3 (c : Dev nD) (t : Fin cfg1.N) (inb) :
    View.ld (iblk1 V c 3 t) (Rect.unit (s := S1x256) ![0, 0] S1x256.size inb) = V c (Pipeline.arrRef spec1 3) := by
  funext x
  refine (View.ld_unit_apply_of (iblk1 V c 3 t) ![0, 0] S1x256.size inb x x (fun a => ?_)).trans ?_
  · fin_cases a <;> exact (zero_add _).symm
  · blk_ext [iblk1, index1_3 t]

theorem index1_4 : ∀ t : Fin cfg1.N, win1_4.index t = ![0, 0] := (by decide +kernel : ∀ t : Fin grid1.N, _)

theorem load1_4 (c : Dev nD) (t : Fin cfg1.N) (inb) :
    View.ld (iblk1 V c 4 t) (Rect.unit (s := S48x256) ![0, 0] S48x256.size inb) = V c (Pipeline.arrRef spec1 4) := by
  funext x
  refine (View.ld_unit_apply_of (iblk1 V c 4 t) ![0, 0] S48x256.size inb x x (fun a => ?_)).trans ?_
  · fin_cases a <;> exact (zero_add _).symm
  · blk_ext [iblk1, index1_4 t]

theorem index1_5 : ∀ t : Fin cfg1.N, win1_5.index t = ![0, 0] := (by decide +kernel : ∀ t : Fin grid1.N, _)

theorem load1_5 (c : Dev nD) (t : Fin cfg1.N) (inb) :
    View.ld (iblk1 V c 5 t) (Rect.unit (s := S1x256) ![0, 0] S1x256.size inb) = V c (Pipeline.arrRef spec1 5) := by
  funext x
  refine (View.ld_unit_apply_of (iblk1 V c 5 t) ![0, 0] S1x256.size inb x x (fun a => ?_)).trans ?_
  · fin_cases a <;> exact (zero_add _).symm
  · blk_ext [iblk1, index1_5 t]

theorem index1_6 : ∀ t : Fin cfg1.N, win1_6.index t = ![0, 0] := (by decide +kernel : ∀ t : Fin grid1.N, _)

theorem load1_6 (c : Dev nD) (t : Fin cfg1.N) (inb) :
    View.ld (iblk1 V c 6 t) (Rect.unit (s := S8x48) ![0, 0] S8x48.size inb) = V c (Pipeline.arrRef spec1 6) := by
  funext x
  refine (View.ld_unit_apply_of (iblk1 V c 6 t) ![0, 0] S8x48.size inb x x (fun a => ?_)).trans ?_
  · fin_cases a <;> exact (zero_add _).symm
  · blk_ext [iblk1, index1_6 t]

theorem index1_1 : ∀ t : Fin cfg1.N, win1_1.index t = ![0, 0] := (by decide +kernel : ∀ t : Fin grid1.N, _)

theorem load1_1 (c : Dev nD) (t : Fin cfg1.N) (inb) :
    View.ld (iblk1 V c 1 t) (Rect.unit (s := S256x256) ![0, 0] S256x256.size inb) = V c (Pipeline.arrRef spec1 1) := by
  funext x
  refine (View.ld_unit_apply_of (iblk1 V c 1 t) ![0, 0] S256x256.size inb x x (fun a => ?_)).trans ?_
  · fin_cases a <;> exact (zero_add _).symm
  · blk_ext [iblk1, index1_1 t]

/-- Image `n`'s column sums. -/
def scoresOf (c : Dev nD) (n : Fin 256) : FVec Ideal S1x1x256 .f32 :=
  scored (patchesOf V c n) (V c (Pipeline.arrRef spec1 2)) (V c (Pipeline.arrRef spec1 3)) (V c (Pipeline.arrRef spec1 4))
    (V c (Pipeline.arrRef spec1 5))
/-- Image `n`'s channel means. -/
def meansOf (c : Dev nD) (n : Fin 256) : FVec Ideal S8x1x1x256 .f32 :=
  means (patchesOf V c n) (V c (Pipeline.arrRef spec1 6))

/-- The array of column sums. -/
def sums1 (c : Dev nD) (i : S256x1x256.Idx) : EReal := scoresOf V c (i 0) (ix3 0 0 (i 2))
/-- The array of channel means. -/
def means1 (c : Dev nD) (i : S8x256x1x256.Idx) : EReal := meansOf V c (i 1) (ix4 (i 0) 0 0 (i 3))

set_option maxHeartbeats 2000000 in
/-- Stage 1 leaves every image's column sums. -/
theorem array1_7 (c : Dev nD) : (dat1 V c).arrAt 7 cfg1.N = sums1 V c := by
  refine (dat1 V c).arrAt_eq_of_covers 7 _ (by decide +kernel) fun t hf y => ?_
  blk_simp
  rw [after1_7, out7]
  canon_tiles x h
  all_goals
    unfold sums1
    rw [load1_0 V c t _ _ ((win1_7.blk t).view.emb y 0) ?_, load1_1, load1_2, load1_3, load1_4, load1_5]
    · refine congrArg (scoresOf V c ((win1_7.blk t).view.emb y 0)) ?_
      blk_ext [index1_7 t]
    · blk_simp [index1_7 t]
      omega

set_option maxHeartbeats 2000000 in
/-- Stage 1 leaves every image's channel means. -/
theorem array1_8 (c : Dev nD) : (dat1 V c).arrAt 8 cfg1.N = means1 V c := by
  refine (dat1 V c).arrAt_eq_of_covers 8 _ (by decide +kernel) fun t hf y => ?_
  blk_simp
  rw [after1_8, out8]
  canon_tiles x h
  all_goals
    unfold means1
    rw [load1_0 V c t _ _ ((win1_8.blk t).view.emb y 1) ?_, load1_1, load1_6]
    · refine congrArg (meansOf V c ((win1_8.blk t).view.emb y 1)) ?_
      blk_ext [index1_8 t]
    · blk_simp [index1_8 t]
      omega

end Cert.Proof.Stage1
-- ==== Proof.Image.lean ====
/- The second stage on one image, read at an index. -/
module

public import proofs.«01_k».proof.Proof.Stage1
public import proofs.«01_k».proof.Proof.Consts
public import Idealize.ShloMosaic.Lib.Pointwise

@[expose] public section

set_option maxRecDepth 16384

noncomputable section

namespace Cert.Proof.Stage1

open Cert.KernelIdeal Cert.KernelIdeal.Gen
open Idealize.ShloMosaic Idealize.ShloMosaic.TcCoe

theorem stack_at (v : Vec Ideal S64x1x192 .f32) (r : Fin 256) (j : Fin 48) :
    stack v (ix2 r j) = v (ix3 ⟨r % 64, by omega⟩ 0 ⟨48 * (r / 64) + j, by omega⟩) := by
  pointwise [stack]
  split_ifs with h1 h2 h3 <;> refine congrArg v ?_ <;> congr 1 <;> apply Fin.ext <;> simp only [] <;> omega

theorem patches_at (v : Vec Ideal S64x1x192 .f32) (w : Vec Ideal S256x256 .f32) (p : Fin 256) (j : Fin 48) :
    patches v w (ix2 p j) = ∑ k : Fin 256, w (ix2 p k) * stack v (ix2 k j) := by
  pointwise [patches]

theorem project_at (x : FVec Ideal S256x48 .f32) (w : Vec Ideal S48x256 .f32) (b : Vec Ideal S1x256 .f32) (p d : Fin 256) :
    project x w b (ix2 p d) = (∑ k : Fin 48, x (ix2 p k) * w (ix2 k d)) + b (ix2 0 d) := by
  pointwise [project]

theorem attend_at (q k : FVec Ideal S256x256 .f32) (a c : Fin 256) :
    attend q k (ix2 a c) = (∑ d : Fin 256, q (ix2 a d) * k (ix2 d c)) * (((Real.sqrt 48)⁻¹ : ℝ) : EReal) := by
  pointwise [attend]
  rfl

theorem raised_at (A : FVec Ideal S256x256 .f32) (a c : Fin 256) :
    raised A (ix2 a c) = Ideal.exp (A (ix2 a c) - Finset.univ.fold max ⊥ fun k : Fin 256 => A (ix2 a k)) := by
  pointwise [raised]
  rw [ofBits_bot]

theorem shares_at (A : FVec Ideal S256x256 .f32) (c : Fin 256) :
    shares A (ix1 c) = ∑ a : Fin 256, Ideal.div (raised A (ix2 a c)) (∑ k : Fin 256, raised A (ix2 a k)) := by
  pointwise [shares]

theorem scored_at (x : FVec Ideal S256x48 .f32) (wq : Vec Ideal S48x256 .f32) (bq : Vec Ideal S1x256 .f32)
    (wk : Vec Ideal S48x256 .f32) (bk : Vec Ideal S1x256 .f32) (c : Fin 256) :
    scored x wq bq wk bk (ix3 0 0 c) = shares (attend (project x wq bq) (project x wk bk)) (ix1 c) := by
  pointwise [scored]

theorem means_at (x : FVec Ideal S256x48 .f32) (w : Vec Ideal S8x48 .f32) (c : Fin 8) (p : Fin 256) :
    means x w (ix4 c 0 0 p) = ∑ j : Fin 48, w (ix2 c j) * x (ix2 p j) := by
  pointwise [means]

end Cert.Proof.Stage1
-- ==== Proof.Order.lean ====
/- The position of the first maximum, the rounds that pick it and set it to −1, and the stable sort's first positions. -/
module

public import Idealize.ShloMosaic.Lib.SortPrefix
public import Idealize.ShloMosaic.Lib.SortNet.Extract
public import Mathlib.Data.EReal.Operations

@[expose] public section

noncomputable section

namespace Cert.Proof

open Idealize.ShloMosaic

variable {n : ℕ}

/-- `i` is the first position at which `s` is greatest. -/
structure IsFirst (s : Fin n → EReal) (i : Fin n) : Prop where
  le : ∀ j, s j ≤ s i
  lt : ∀ j, j < i → s j < s i

theorem IsFirst.unique {s : Fin n → EReal} {i j : Fin n} (hi : IsFirst s i) (hj : IsFirst s j) : i = j := by
  rcases lt_trichotomy i j with h | h | h
  · exact absurd (hj.lt i h) (not_lt.mpr (hi.le j))
  · exact h
  · exact absurd (hi.lt j h) (not_lt.mpr (hj.le i))

theorem exists_isFirst [NeZero n] (s : Fin n → EReal) : ∃ i, IsFirst s i := by
  classical
  obtain ⟨m, -, hm'⟩ := Finset.univ.exists_max_image s ⟨0, Finset.mem_univ _⟩
  have hm : ∀ j, s j ≤ s m := fun j => hm' j (Finset.mem_univ j)
  have hne : (Finset.univ.filter fun i => ∀ j, s j ≤ s i).Nonempty := ⟨m, by simpa using hm⟩
  refine ⟨(Finset.univ.filter fun i => ∀ j, s j ≤ s i).min' hne, ?_, fun j hj => ?_⟩
  · exact (Finset.mem_filter.mp (Finset.min'_mem _ hne)).2
  · have h0 := (Finset.mem_filter.mp (Finset.min'_mem _ hne)).2
    by_contra hge
    have hj' : j ∈ Finset.univ.filter fun i => ∀ j, s j ≤ s i :=
      Finset.mem_filter.mpr ⟨Finset.mem_univ _, fun k => le_trans (h0 k) (not_lt.mp hge)⟩
    exact absurd hj (not_lt.mpr (Finset.min'_le _ _ hj'))

/-- The first position at which `s` is greatest. -/
def first [NeZero n] (s : Fin n → EReal) : Fin n := (exists_isFirst s).choose
theorem isFirst_first [NeZero n] (s : Fin n → EReal) : IsFirst s (first s) := (exists_isFirst s).choose_spec

/-- The maximum of a row is its value at the first maximum. -/
theorem IsFirst.fold_max {s : Fin n → EReal} {i : Fin n} (h : IsFirst s i) : Finset.univ.fold max ⊥ s = s i := by
  apply le_antisymm
  · exact (Finset.fold_max_le _).mpr ⟨bot_le, fun j _ => h.le j⟩
  · exact (Finset.le_fold_max _).mpr (Or.inr ⟨i, Finset.mem_univ _, le_refl _⟩)

/-- A minimum of words is the one that is least. -/
theorem fold_minsi_eq {ι : Type} [Fintype ι] (g : ι → BitVec 32) (z : BitVec 32) (i : ι) (hz : (g i).toInt ≤ z.toInt)
    (h : ∀ j, (g i).toInt ≤ (g j).toInt) : Finset.univ.fold IntOp.minsi z g = g i := by
  classical
  have key : ∀ s : Finset ι, (g i).toInt ≤ (s.fold IntOp.minsi z g).toInt ∧
      (i ∈ s → (s.fold IntOp.minsi z g).toInt ≤ (g i).toInt) := by
    intro s
    induction s using Finset.induction_on with
    | empty => exact ⟨by rw [Finset.fold_empty]; exact hz, fun hi => absurd hi (Finset.notMem_empty i)⟩
    | insert a s ha ih =>
      rw [Finset.fold_insert ha, SortNet.toInt_minsi]
      refine ⟨le_min (h a) ih.1, fun hi => ?_⟩
      rcases Finset.mem_insert.mp hi with rfl | hi
      · exact min_le_left _ _
      · exact le_trans (min_le_right _ _) (ih.2 hi)
  exact BitVec.eq_of_toInt_eq (le_antisymm ((key _).2 (Finset.mem_univ i)) (key _).1)

/-- The integer of a small natural's word is the natural. -/
theorem toInt_ofNat_small (k : ℕ) (h : k < 2 ^ 31) : (BitVec.ofNat 32 k).toInt = k := by
  rw [BitVec.toInt_eq_toNat_cond, BitVec.toNat_ofNat]
  have e : k % 2 ^ 32 = k := Nat.mod_eq_of_lt (by omega)
  rw [e, if_pos (by omega)]

/-- The least position among those at which `s` is at least its maximum, out of words: the first maximum. -/
theorem IsFirst.fold_minsi {s : Fin n → EReal} {i : Fin n} (h : IsFirst s i) (hn : n < 2 ^ 31) (g : Fin n → BitVec 32)
    (hg : ∀ j, g j = if s i ≤ s j then BitVec.ofNat 32 j else BitVec.ofNat 32 n) :
    Finset.univ.fold IntOp.minsi 2147483647#32 g = BitVec.ofNat 32 i := by
  have hi : g i = BitVec.ofNat 32 i := by rw [hg, if_pos (le_refl _)]
  rw [← hi]
  have hi' := i.isLt
  refine fold_minsi_eq g _ i ?_ fun j => ?_
  · rw [hi, toInt_ofNat_small _ (by omega)]
    have : (2147483647#32 : BitVec 32).toInt = 2147483647 := by decide
    rw [this]; omega
  · have hj' := j.isLt
    rw [hi, toInt_ofNat_small _ (by omega), hg]
    split
    · rw [toInt_ofNat_small _ (by omega)]
      rename_i hle
      have : ¬ j < i := fun hlt => absurd (h.lt j hlt) (not_lt.mpr hle)
      have := Fin.not_lt.mp this
      exact_mod_cast this
    · rw [toInt_ofNat_small _ hn]; omega

/-- The row after `k` rounds: each sets the first maximum to −1. -/
def rounds [NeZero n] (s : Fin n → EReal) : ℕ → Fin n → EReal
  | 0 => s
  | k + 1 => fun j => if j = first (rounds s k) then -1 else rounds s k j
/-- What round `k` picks. -/
def best [NeZero n] (s : Fin n → EReal) (k : ℕ) : Fin n := first (rounds s k)

theorem rounds_eq [NeZero n] (s : Fin n → EReal) (k : ℕ) (j : Fin n) :
    (rounds s k j = s j ∧ ∀ l < k, best s l ≠ j) ∨ (rounds s k j = -1 ∧ ∃ l < k, best s l = j) := by
  induction k with
  | zero => exact Or.inl ⟨rfl, fun l hl => absurd hl (Nat.not_lt_zero l)⟩
  | succ k ih =>
    by_cases hj : j = best s k
    · exact Or.inr ⟨if_pos hj, k, Nat.lt_succ_self k, hj.symm⟩
    · have e : rounds s (k + 1) j = rounds s k j := if_neg hj
      rcases ih with ⟨h1, h2⟩ | ⟨h1, l, hl, h2⟩
      · refine Or.inl ⟨e.trans h1, fun l hl => ?_⟩
        rcases Nat.lt_succ_iff_lt_or_eq.mp hl with h | rfl
        · exact h2 l h
        · exact fun h => hj h.symm
      · exact Or.inr ⟨e.trans h1, l, Nat.lt_succ_of_lt hl, h2⟩

/-- A round of a row without negatives picks a position not picked before. -/
theorem best_fresh [NeZero n] {s : Fin n → EReal} (hs : ∀ j, 0 ≤ s j) (k : ℕ) (hk : k < n) : ∀ l < k, best s l ≠ best s k := by
  classical
  have hex : ∃ j : Fin n, ∀ l < k, best s l ≠ j := by
    by_contra hno
    push Not at hno
    have hsub : (Finset.univ : Finset (Fin n)) ⊆ (Finset.range k).image (best s) := fun j _ => by
      obtain ⟨l, hl, e⟩ := hno j
      exact Finset.mem_image.mpr ⟨l, Finset.mem_range.mpr hl, e⟩
    have := (Finset.card_le_card hsub).trans Finset.card_image_le
    rw [Finset.card_univ, Fintype.card_fin, Finset.card_range] at this
    omega
  obtain ⟨j, hj⟩ := hex
  have hle := (isFirst_first (rounds s k)).le j
  rcases rounds_eq s k j with ⟨h1, _⟩ | ⟨_, l, hl, h2⟩
  · rcases rounds_eq s k (best s k) with ⟨_, h⟩ | ⟨h, _⟩
    · exact h
    · exfalso
      rw [h1] at hle
      have h' : rounds s k (first (rounds s k)) = -1 := h
      rw [h'] at hle
      have := le_trans (hs j) hle
      exact absurd this (not_le.mpr (EReal.neg_lt_zero.mpr zero_lt_one))
  · exact absurd h2 (hj l hl)

/-- Position `a` is before `b`: its value is greater, or equal with `a` the lower. -/
def before (s : Fin n → EReal) (a b : Fin n) : Bool := decide (s b < s a) || (decide (s a = s b) && decide (a < b))

theorem before_total (s : Fin n → EReal) : StrictTotalBefore (before s) :=
  StrictTotalBefore.of_key_then_position (fun a b : EReal => decide (b < a)) s (fun a => by simp)
    (fun a b c h1 h2 => by simp only [decide_eq_true_eq] at *; exact h2.trans h1)
    (fun a b => by simp only [decide_eq_true_eq]; rcases lt_trichotomy a b with h | h | h <;> tauto)

/-- No position left is before what a round picks. -/
theorem best_before [NeZero n] {s : Fin n → EReal} (hs : ∀ j, 0 ≤ s j) (k : ℕ) (hk : k < n) (p : Fin n)
    (hp : ∀ l < k, best s l ≠ p) : before s p (best s k) = false := by
  have hf := isFirst_first (rounds s k)
  have e1 : rounds s k p = s p := by
    rcases rounds_eq s k p with ⟨h, _⟩ | ⟨_, l, hl, h⟩
    · exact h
    · exact absurd h (hp l hl)
  have e2 : rounds s k (first (rounds s k)) = s (best s k) := by
    rcases rounds_eq s k (best s k) with ⟨h, _⟩ | ⟨_, l, hl, h⟩
    · exact h
    · exact absurd h (best_fresh hs k hk l hl)
  have hle := hf.le p
  rw [e1, e2] at hle
  have hlt : p < best s k → s p < s (best s k) := fun h => by
    have := hf.lt p h
    rwa [e1, e2] at this
  unfold before
  rw [Bool.or_eq_false_iff]
  refine ⟨decide_eq_false (not_lt.mpr hle), ?_⟩
  by_cases h : p < best s k
  · rw [decide_eq_false (ne_of_lt (hlt h)), Bool.false_and]
  · rw [decide_eq_false h, Bool.and_false]

/-- A stable sort of an ascending list of positions never needs the position: ties keep their order. -/
theorem stableSort_ties {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The first positions of a descending sort are what the rounds pick. -/
theorem sortedFrom_best [NeZero n] {s : Fin n → EReal} (hs : ∀ j, 0 ≤ s j) {m : ℕ} (hm : m ≤ n) (R : Fin n → Fin n → Bool)
    (hR : ∀ a b, R a b = decide (s b < s a)) (i : Fin m) : sortedFrom R (i.castLE hm) = best s i := by
  have e : sortPositions n R = sortPositions n (before s) := by
    refine stableSort_ties R (before s) _ ((List.pairwise_lt_finRange n).imp fun {a b} hab => ?_)
    rw [hR]
    unfold before
    rw [decide_eq_false (not_lt.mpr (le_of_lt hab)), Bool.and_false, Bool.or_false]
  have e' : sortedFrom R = sortedFrom (before s) := by
    funext k
    unfold sortedFrom
    rw [List.get_of_eq e]
    rfl
  rw [e']
  refine (before_total s).sortedFrom_eq_of_prefix hm (fun i : Fin m => best s i) ?_ ?_ ?_ i
  · intro a b hab
    rcases lt_trichotomy a b with h | h | h
    · exact absurd hab (best_fresh hs b (by omega) a h)
    · exact h
    · exact absurd hab.symm (best_fresh hs a (by omega) b h)
  · intro a b hab
    exact best_before hs a (by omega) _ fun l hl => by
      exact best_fresh hs b (by omega) l (lt_trans hl hab)
  · intro a p hp
    exact best_before hs a (by omega) p fun l hl => hp ⟨l, by omega⟩

end Cert.Proof
-- ==== Proof.Spec.lean ====
/- What both programs compute, as functions of the nine arguments. -/
module

public import proofs.«01_k».proof.Proof.Order
public import Idealize.ShloMosaic.PureOps.Ideal
public import Mathlib.Analysis.Real.Sqrt

@[expose] public section

noncomputable section

namespace Cert.Proof

open Idealize.ShloMosaic

/-- A softmax's numerator: the exponential of the distance to the row's maximum. -/
def raise {n : ℕ} (v : Fin n → EReal) (a : Fin n) : EReal := Ideal.exp (v a - Finset.univ.fold max ⊥ v)
/-- The softmax of a row. -/
def soften {n : ℕ} (v : Fin n → EReal) (a : Fin n) : EReal := Ideal.div (raise v a) (∑ k, raise v k)

/-- Entry `t` of round `r`: the picked patch's row and column, then its three channel means. -/
def piece (s : Fin 256 → EReal) (mean : Fin 3 → Fin 256 → EReal) (r t : ℕ) : EReal :=
  if t = 0 then ((((best s r / 64 : ℕ) : ℝ) + 2) / 64 : ℝ)
  else if t = 1 then ((((best s r % 64 : ℕ) : ℝ) + 2) / 64 : ℝ)
  else mean ⟨(t - 2) % 3, Nat.mod_lt _ (by decide)⟩ (best s r)

/-- The forty features: five of each of the eight rounds. -/
def feature (s : Fin 256 → EReal) (mean : Fin 3 → Fin 256 → EReal) (f : Fin 40) : EReal := piece s mean (f / 5) (f % 5)

/-- The nine arguments. -/
@[ext] structure Args where
  x : Fin 256 → Fin 64 → Fin 64 → Fin 3 → EReal
  wq : Fin 256 → Fin 48 → EReal
  bq : Fin 256 → EReal
  wk : Fin 256 → Fin 48 → EReal
  bk : Fin 256 → EReal
  w1 : Fin 6 → Fin 40 → EReal
  b1 : Fin 6 → EReal
  w2 : Fin 15 → Fin 6 → EReal
  b2 : Fin 15 → EReal

namespace Args

variable (A : Args) (n : Fin 256)

/-- Entry `j` of image `n`'s patch `p`: sixteen pixels of one image row, three channels each. -/
def patch (p : Fin 256) (j : Fin 48) : EReal :=
  A.x n ⟨p / 4, by omega⟩ ⟨16 * (p % 4) + j / 3, by omega⟩ ⟨j % 3, Nat.mod_lt _ (by decide)⟩
/-- The queries. -/
def query (p d : Fin 256) : EReal := (∑ j, A.patch n p j * A.wq d j) + A.bq d
/-- The keys. -/
def key (p d : Fin 256) : EReal := (∑ j, A.patch n p j * A.wk d j) + A.bk d
/-- The scaled products. -/
def product (a c : Fin 256) : EReal := (∑ d, A.query n a d * A.key n d c) * (((Real.sqrt 48)⁻¹ : ℝ) : EReal)
/-- A patch's score: the sum of its column of the softmax. -/
def score (c : Fin 256) : EReal := ∑ a, soften (A.product n a) c
/-- A channel's mean over a patch, over 255. -/
def mean (ch : Fin 3) (p : Fin 256) : EReal :=
  Ideal.div (Ideal.div (∑ i : Fin 16, A.patch n p ⟨3 * i + ch, by omega⟩) ((16 : ℝ) : EReal)) ((255 : ℝ) : EReal)
/-- The first dense layer. -/
def hidden (h : Fin 6) : EReal := (∑ f, feature (A.score n) (A.mean n) f * A.w1 h f) + A.b1 h
/-- The logits. -/
def logit (a : Fin 15) : EReal := (∑ h, A.hidden n h * A.w2 a h) + A.b2 a
/-- The actions. -/
def action : Fin 15 → EReal := soften (A.logit n)
/-- The selected action. -/
def chosen : Fin 15 := first (A.logit n)

end Args

end Cert.Proof
-- ==== Proof.Chain.lean ====
/- What the kernel's three stages hold, index by index, from the nine arguments: the second stage's scores and means. -/
module

public import proofs.«01_k».proof.Proof.Tables
public import proofs.«01_k».proof.Proof.Array0
public import proofs.«01_k».proof.Proof.Array1
public import proofs.«01_k».proof.Proof.Image
public import proofs.«01_k».proof.Proof.Spec

@[expose] public section

set_option maxRecDepth 16384

noncomputable section

namespace Cert.Proof.Chain

open Cert.KernelIdeal Cert.KernelIdeal.Gen
open Idealize.ShloMosaic Idealize.ShloMosaic.TcCoe

variable (m : (ℓ : Loc nD τ sig) → Buf (Elt Ideal) ℓ) (ρ : Dev nD → PrngReg) (c : Dev nD)

/-- The nine arguments as the kernel's memory holds them. -/
def args : Args where
  x n i j ch := (m ((c : Thread nD τ).loc main_arg0) : S256x64x64x3.Idx → EReal) (ix4 n i j ch)
  wq d k := (m ((c : Thread nD τ).loc main_arg1) : S256x48.Idx → EReal) (ix2 d k)
  bq d := (m ((c : Thread nD τ).loc main_arg2) : S256.Idx → EReal) (ix1 d)
  wk d k := (m ((c : Thread nD τ).loc main_arg3) : S256x48.Idx → EReal) (ix2 d k)
  bk d := (m ((c : Thread nD τ).loc main_arg4) : S256.Idx → EReal) (ix1 d)
  w1 h f := (m ((c : Thread nD τ).loc main_arg5) : S6x40.Idx → EReal) (ix2 h f)
  b1 h := (m ((c : Thread nD τ).loc main_arg6) : S6.Idx → EReal) (ix1 h)
  w2 a h := (m ((c : Thread nD τ).loc main_arg7) : S15x6.Idx → EReal) (ix2 a h)
  b2 a := (m ((c : Thread nD τ).loc main_arg8) : S15.Idx → EReal) (ix1 a)

/-- A sum against an indicator of one index is the term there. -/
theorem sum_pick {n : ℕ} (v : Fin n → EReal) (P : Fin n → Prop) [DecidablePred P] (k₀ : Fin n) (h : ∀ k, P k ↔ k = k₀) :
    ∑ k, v k * (if P k then (1 : EReal) else 0) = v k₀ := by
  refine (Finset.sum_eq_single k₀ (fun k _ hk => ?_) fun hk => absurd (Finset.mem_univ _) hk).trans ?_
  · rw [if_neg fun hp => hk ((h k).mp hp), mul_zero]
  · rw [if_pos ((h k₀).mpr rfl), mul_one]

/-- The rows the first stage leaves: the pixels' columns regrouped by sixteen. -/
theorem rows (h : Fin 64) (n : Fin 256) (j : Fin 192) :
    (W2 m ρ c (Proc.devRef .tc (Pipeline.arrRef spec0 2)) : S64x256x192.Idx → EReal) (ix3 h n j)
      = (args m c).x n h ⟨16 * (j / 48) + j % 48 / 3, by omega⟩ ⟨j % 3, Nat.mod_lt _ (by decide)⟩ := by
  rw [W2_arr m ρ c 2, Stage1.array0]
  refine (Finset.sum_congr rfl fun k _ => congrArg₂ (fun a b : EReal => a * b) (Host.rows_at m ρ c h k n)
    (Tables.perm1 m ρ c k j)).trans ?_
  refine (sum_pick (fun k : Fin 192 => (m ((c : Thread nD τ).loc main_arg0) : S256x64x64x3.Idx → EReal)
          (ix4 n h ⟨k % 64, Nat.mod_lt _ (by decide)⟩ ⟨k / 64, by omega⟩)) _
    ⟨64 * (j % 3) + (16 * (j / 48) + j % 48 / 3), by omega⟩ fun k => ?_).trans ?_
  · rw [Fin.ext_iff]
    constructor
    · rintro ⟨h1, h2, h3⟩
      show k.val = 64 * (j.val % 3) + (16 * (j.val / 48) + j.val % 48 / 3)
      omega
    · intro hk
      replace hk : k.val = 64 * (j.val % 3) + (16 * (j.val / 48) + j.val % 48 / 3) := hk
      have hb : j.val / 48 < 4 := by omega
      have hc : j.val % 48 / 3 < 16 := by omega
      generalize j.val / 48 = b at hk hb ⊢
      generalize j.val % 48 / 3 = d at hk hc ⊢
      refine ⟨by omega, ?_, by omega⟩
      have : k.val % 64 = 16 * b + d := by omega
      omega
  · show (m ((c : Thread nD τ).loc main_arg0) : S256x64x64x3.Idx → EReal) _
      = (m ((c : Thread nD τ).loc main_arg0) : S256x64x64x3.Idx → EReal) _
    congr 2 <;> apply Fin.ext <;> simp only [] <;> omega

theorem v3_rows : W3 m ρ c (Proc.devRef .tc (Pipeline.arrRef spec1 0)) = W2 m ρ c (Proc.devRef .tc (Pipeline.arrRef spec0 2)) :=
  W3_of m ρ c _ (by decide)
theorem v3_perm : W3 m ρ c (Proc.devRef .tc (Pipeline.arrRef spec1 1)) = W1 m ρ c (Proc.devRef .tc main_cst_1) :=
  (W3_of m ρ c _ (by decide)).trans (W2_of m ρ c _ (by decide))
theorem v3_mask : W3 m ρ c (Proc.devRef .tc (Pipeline.arrRef spec1 6)) = W1 m ρ c (Proc.devRef .tc main_v3) :=
  (W3_of m ρ c _ (by decide)).trans (W2_of m ρ c _ (by decide))

/-- The patches of image `n`. -/
theorem patch (n p : Fin 256) (j : Fin 48) : Stage1.patchesOf (V3 m ρ) c n (ix2 p j) = (args m c).patch n p j := by
  have hw (k : Fin 256) : (V3 m ρ c (Pipeline.arrRef spec1 1) : S256x256.Idx → EReal) (ix2 p k)
      = if k.val = 64 * (p.val % 4) + p.val / 4 then (1 : EReal) else 0 :=
    (congrFun (v3_perm m ρ c) _).trans (Tables.perm2 m ρ c p k)
  refine (Stage1.patches_at _ _ p j).trans ?_
  refine (Finset.sum_congr rfl fun k _ => (congrArg (fun a : EReal => a * Stage1.stack (Stage1.image (V3 m ρ) c n) (ix2 k j))
    (hw k)).trans (mul_comm _ _)).trans ?_
  refine (sum_pick (fun k => Stage1.stack (Stage1.image (V3 m ρ) c n) (ix2 k j)) _ ⟨64 * (p % 4) + p / 4, by omega⟩
    fun k => by rw [Fin.ext_iff]).trans ?_
  rw [Stage1.stack_at]
  refine (congrFun (v3_rows m ρ c) _).trans ((rows m ρ c ⟨(64 * (p % 4) + p / 4) % 64, by omega⟩ n
    ⟨48 * ((64 * (p % 4) + p / 4) / 64) + j, by omega⟩).trans ?_)
  unfold Args.patch
  congr 1 <;> apply Fin.ext <;> simp only [] <;> omega

theorem query (n p d : Fin 256) :
    Stage1.project (Stage1.patchesOf (V3 m ρ) c n) (V3 m ρ c (Pipeline.arrRef spec1 2)) (V3 m ρ c (Pipeline.arrRef spec1 3))
      (ix2 p d) = (args m c).query n p d := by
  rw [Stage1.project_at]
  simp only [patch]
  exact congrArg₂ (· + ·) (Finset.sum_congr rfl fun k _ => congrArg (_ * ·) (Host.wq_at m ρ c k d)) (Host.bq_at m ρ c d)

theorem key (n p d : Fin 256) :
    Stage1.project (Stage1.patchesOf (V3 m ρ) c n) (V3 m ρ c (Pipeline.arrRef spec1 4)) (V3 m ρ c (Pipeline.arrRef spec1 5))
      (ix2 p d) = (args m c).key n p d := by
  rw [Stage1.project_at]
  simp only [patch]
  exact congrArg₂ (· + ·) (Finset.sum_congr rfl fun k _ => congrArg (_ * ·) (Host.wk_at m ρ c k d)) (Host.bk_at m ρ c d)

/-- The column sums of the softmax of the scaled products, from the queries and keys by index. -/
theorem shares_of (Q K : FVec Ideal S256x256 .f32) (q k : Fin 256 → Fin 256 → EReal) (hQ : ∀ a d, Q (ix2 a d) = q a d)
    (hK : ∀ d c, K (ix2 d c) = k d c) (j : Fin 256) :
    Stage1.shares (Stage1.attend Q K) (ix1 j)
      = ∑ a, soften (fun c : Fin 256 => (∑ d, q a d * k d c) * (((Real.sqrt 48)⁻¹ : ℝ) : EReal)) j := by
  rw [Stage1.shares_at]
  simp only [Stage1.raised_at, Stage1.attend_at, hQ, hK]
  rfl

/-- The scores of image `n`. -/
theorem score (n q : Fin 256) : Stage1.scoresOf (V3 m ρ) c n (ix3 0 0 q) = (args m c).score n q :=
  (Stage1.scored_at _ _ _ _ _ q).trans (shares_of _ _ _ _ (query m ρ c n) (key m ρ c n) q)

/-- A real nonnegative factor enters a sum. -/
theorem factor_sum {n : ℕ} (r : ℝ) (hr : 0 ≤ r) (v : Fin n → EReal) : ∑ i, (r : EReal) * v i = (r : EReal) * ∑ i, v i := by
  induction n with
  | zero => simp
  | succ n ih =>
    rw [Fin.sum_univ_succ, Fin.sum_univ_succ, ih, EReal.left_distrib_of_nonneg_of_ne_top (by exact_mod_cast hr) (EReal.coe_ne_top r)]

/-- A channel's share of a patch row, as the mask takes it, is the channel's mean over 255. -/
theorem mask_sum (v : Fin 48 → EReal) (ch : Fin 3) :
    ∑ j : Fin 48, (if ch.val < 3 ∧ j.val % 3 = ch.val then (((4080 : ℝ)⁻¹ : ℝ) : EReal) else 0) * v j
      = Ideal.div (Ideal.div (∑ i : Fin 16, v ⟨3 * i + ch, by omega⟩) ((16 : ℝ) : EReal)) ((255 : ℝ) : EReal) := by
  rw [Ideal.div_coe (by norm_num), Ideal.div_coe (by norm_num), mul_assoc, ← EReal.coe_mul, mul_comm,
    ← factor_sum _ (by norm_num), ← (finProdFinEquiv (m := 16) (n := 3)).sum_comp, Fintype.sum_prod_type]
  refine Finset.sum_congr rfl fun i _ => ?_
  refine (Finset.sum_eq_single ch (fun b _ hb => ?_) fun h => absurd (Finset.mem_univ _) h).trans ?_
  · rw [if_neg, zero_mul]
    rintro ⟨-, h⟩
    apply hb
    apply Fin.ext
    have : ((finProdFinEquiv (m := 16) (n := 3) (i, b)).val) = b.val + 3 * i.val := rfl
    rw [this] at h
    omega
  · have e : ((finProdFinEquiv (m := 16) (n := 3) (i, ch)).val) = ch.val + 3 * i.val := rfl
    rw [if_pos ⟨ch.isLt, by rw [e]; omega⟩]
    refine congrArg₂ (fun a b : EReal => a * b) (by norm_num) (congrArg v (Fin.ext ?_))
    rw [e]
    exact Nat.add_comm _ _

/-- The channel means of image `n`. -/
theorem mean (n q : Fin 256) (ch : Fin 3) :
    Stage1.meansOf (V3 m ρ) c n (ix4 ⟨ch, by omega⟩ 0 0 q) = (args m c).mean n ch q := by
  have hw (j : Fin 48) : (V3 m ρ c (Pipeline.arrRef spec1 6) : S8x48.Idx → EReal) (ix2 ⟨ch, by omega⟩ j)
      = if ch.val < 3 ∧ j.val % 3 = ch.val then (((4080 : ℝ)⁻¹ : ℝ) : EReal) else 0 :=
    (congrFun (v3_mask m ρ c) _).trans (Tables.mask m ρ c _ j)
  refine (Stage1.means_at _ _ _ q).trans ?_
  exact (Finset.sum_congr rfl fun j _ => congrArg₂ (fun a b : EReal => a * b) (hw j) (patch m ρ c n q j)).trans
    (mask_sum ((args m c).patch n q) ch)

end Cert.Proof.Chain
-- ==== Proof.Stage2.lean ====
/- The second stage's body in named steps: eight rounds of masked arg-max, the features of a round, and the two dense
   layers. Each value the generated frame states of the body is the step of that name (the payloads differ only in
   where the printed program cuts them), so the two output buffers are stated through the steps. -/
module

public import proofs.«01_k».proof.Proof.Gen.KernelIdeal.Frame

@[expose] public section

set_option maxRecDepth 16384

noncomputable section

namespace Cert.Proof.Stage2

open Cert.KernelIdeal Cert.KernelIdeal.Gen
open Idealize.ShloMosaic Idealize.ShloMosaic.TcCoe

variable {F : FTy → Type} [FloatOps F] [Named F]

/-- The column number at every entry of a 256×256 array. -/
def cols : IVec S256x256 32 := iota .tc S256x256 32 [1] iota_S256x256_d1_w32

/-- The row maxima, one per row. -/
def top (p : FVec F S256x256 .f32) : FVec F S256x256 .f32 :=
  broadcastTo S256x256 (shapeCast S256x1 (multiReduction .maximumf [1] S256 p 0xFF800000#32 reduces_S256x256_S256
    (.inl rfl) rfl) shapeCasts_S256_S256x1) broadcasts_S256x1_S256x256

/-- The first column attaining its row's maximum. -/
def pick (p : FVec F S256x256 .f32) : IVec S256 32 :=
  multiReductionI .minsi [1] S256 (select (cmpf .oge p (top p)) cols (broadcast S256x256 256#32)) 2147483647#32
    reduces_S256x256_S256 rfl

/-- The picked columns as a column vector. -/
def pickCol (p : FVec F S256x256 .f32) : IVec S256x1 32 := shapeCast S256x1 (pick p) shapeCasts_S256_S256x1

/-- The mask that is set at the picked column of each row. -/
def hit (p : FVec F S256x256 .f32) : IVec S256x256 1 :=
  cmpi .eq cols (broadcastTo S256x256 (pickCol p) broadcasts_S256x1_S256x256)

/-- The scores with the picked column of each row at −1. -/
def next (p : FVec F S256x256 .f32) : FVec F S256x256 .f32 :=
  select (hit p) (broadcast S256x256 (Scalar.ofBits .f32 0xBF800000#32)) p

/-- The scores after `k` rounds. -/
def scores (p : FVec F S256x256 .f32) : ℕ → FVec F S256x256 .f32
  | 0 => p
  | k + 1 => next (scores p k)

/-- The quotient by 64, rounded down. -/
def rowOf (i : IVec S256x1 32) : IVec S256x1 32 :=
  select (andi (cmpi .ne (subi (extui 32 (cmpi .sgt i (broadcast S256x1 0#32)) natLt_1_32)
        (extui 32 (cmpi .slt i (broadcast S256x1 0#32)) natLt_1_32))
      (broadcast S256x1 (Scalar.subi (Scalar.extui (Scalar.cmpi .sgt 64#32 0#32)) (Scalar.extui (Scalar.cmpi .slt 64#32 0#32)))))
      (cmpi .ne (remsi i (broadcast S256x1 64#32)) (broadcast S256x1 0#32)))
    (subi (divsi i (broadcast S256x1 64#32)) (broadcast S256x1 1#32)) (divsi i (broadcast S256x1 64#32))

/-- What is left of a number after its quotient by 64. -/
def colOf (i : IVec S256x1 32) : IVec S256x1 32 := subi i (muli (rowOf i) (broadcast S256x1 64#32))

/-- A coordinate's feature: the number plus two, over 64. -/
def centre (i : IVec S256x1 32) : FVec F S256x1 .f32 :=
  mulf (addf (sitofp .f32 i) (broadcast S256x1 (Scalar.ofBits .f32 0x40000000#32)))
    (broadcast S256x1 (Scalar.ofBits .f32 0x3C800000#32))

/-- A channel's mean at the picked patch: the masked sum along the row. -/
def colour (h : IVec S256x256 1) (v : Vec F S1x256x1x256 .f32) : FVec F S256x1 .f32 :=
  shapeCast S256x1 (multiReduction .add [1] S256 (select h (shapeCast S256x256 v shapeCasts_S1x256x1x256_S256x256)
    (broadcast S256x256 (Scalar.ofBits .f32 0x00000000#32))) 0x00000000#32 reduces_S256x256_S256 (.inl rfl) rfl)
    shapeCasts_S256_S256x1

/-- Round `k`'s two coordinates and three channels. -/
def fx (p : FVec F S256x256 .f32) (k : ℕ) : FVec F S256x1 .f32 := centre (rowOf (pickCol (scores p k)))
@[inherit_doc fx]
def fy (p : FVec F S256x256 .f32) (k : ℕ) : FVec F S256x1 .f32 := centre (colOf (pickCol (scores p k)))
@[inherit_doc fx]
def fc (p : FVec F S256x256 .f32) (v : Vec F S1x256x1x256 .f32) (k : ℕ) : FVec F S256x1 .f32 := colour (hit (scores p k)) v

/-- The forty features of every image. -/
def feats (p : FVec F S256x256 .f32) (r g b : Vec F S1x256x1x256 .f32) : FVec F S256x40 .f32 :=
  concatenate S256x40 1 (
    ⟨S256x1, fx p 0⟩ :: ⟨S256x1, fy p 0⟩ :: ⟨S256x1, fc p r 0⟩ :: ⟨S256x1, fc p g 0⟩ :: ⟨S256x1, fc p b 0⟩ ::
    ⟨S256x1, fx p 1⟩ :: ⟨S256x1, fy p 1⟩ :: ⟨S256x1, fc p r 1⟩ :: ⟨S256x1, fc p g 1⟩ :: ⟨S256x1, fc p b 1⟩ ::
    ⟨S256x1, fx p 2⟩ :: ⟨S256x1, fy p 2⟩ :: ⟨S256x1, fc p r 2⟩ :: ⟨S256x1, fc p g 2⟩ :: ⟨S256x1, fc p b 2⟩ ::
    ⟨S256x1, fx p 3⟩ :: ⟨S256x1, fy p 3⟩ :: ⟨S256x1, fc p r 3⟩ :: ⟨S256x1, fc p g 3⟩ :: ⟨S256x1, fc p b 3⟩ ::
    ⟨S256x1, fx p 4⟩ :: ⟨S256x1, fy p 4⟩ :: ⟨S256x1, fc p r 4⟩ :: ⟨S256x1, fc p g 4⟩ :: ⟨S256x1, fc p b 4⟩ ::
    ⟨S256x1, fx p 5⟩ :: ⟨S256x1, fy p 5⟩ :: ⟨S256x1, fc p r 5⟩ :: ⟨S256x1, fc p g 5⟩ :: ⟨S256x1, fc p b 5⟩ ::
    ⟨S256x1, fx p 6⟩ :: ⟨S256x1, fy p 6⟩ :: ⟨S256x1, fc p r 6⟩ :: ⟨S256x1, fc p g 6⟩ :: ⟨S256x1, fc p b 6⟩ ::
    ⟨S256x1, fx p 7⟩ :: ⟨S256x1, fy p 7⟩ :: ⟨S256x1, fc p r 7⟩ :: ⟨S256x1, fc p g 7⟩ :: ⟨S256x1, fc p b 7⟩ :: []) concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x40_d1

/-- The two dense layers. -/
def dense (x : FVec F S256x40 .f32) (w1 : Vec F S40x6 .f32) (b1 : Vec F S1x6 .f32) (w2 : Vec F S6x15 .f32)
    (b2 : Vec F S1x15 .f32) : FVec F S256x15 .f32 :=
  addf (matmul dot_S256x6_S6x15_S256x15_1_0_0_1_n_n none
      (addf (matmul dot_S256x40_S40x6_S256x6_1_0_0_1_n_n none x (shapeCast S40x6 w1 shapeCasts_S40x6_S40x6)
          (constant S256x6 .f32 0x00000000#32))
        (broadcastTo S256x6 (shapeCast S1x6 b1 shapeCasts_S1x6_S1x6) broadcasts_S1x6_S256x6))
      (shapeCast S6x15 w2 shapeCasts_S6x15_S6x15) (constant S256x15 .f32 0x00000000#32))
    (broadcastTo S256x15 (shapeCast S1x15 b2 shapeCasts_S1x15_S1x15) broadcasts_S1x15_S256x15)

/-- The largest logit of every image. -/
def peak (l : FVec F S256x15 .f32) : FVec F S256x15 .f32 :=
  broadcastTo S256x15 (shapeCast S256x1 (multiReduction .maximumf [1] S256 l 0xFF800000#32 reduces_S256x15_S256
    (.inl rfl) rfl) shapeCasts_S256_S256x1) broadcasts_S256x1_S256x15

/-- The softmax of the logits. -/
def soft (l : FVec F S256x15 .f32) : FVec F S256x15 .f32 :=
  divf (exp (subf l (peak l))) (broadcastTo S256x15 (shapeCast S256x1 (multiReduction .add [1] S256
    (exp (subf l (peak l))) 0x00000000#32 reduces_S256x15_S256 (.inl rfl) rfl) shapeCasts_S256_S256x1)
    broadcasts_S256x1_S256x15)

/-- The first action whose logit attains the maximum, as a row. -/
def choice (l : FVec F S256x15 .f32) : IVec S1x256 32 :=
  shapeCast S1x256 (multiReductionI .minsi [1] S256 (select (cmpf .oge l (peak l))
    (iota .tc S256x15 32 [1] iota_S256x15_d1_w32) (broadcast S256x15 15#32)) 2147483647#32 reduces_S256x15_S256 rfl)
    shapeCasts_S256_S1x256

/-- The scores block as a 256×256 array. -/
def flat (x0 : Vec F S256x1x256 .f32) : FVec F S256x256 .f32 :=
  shapeCast S256x256 (View.ld x0 r2_0) shapeCasts_S256x1x256_S256x256

variable (x0 : Vec F S256x1x256 .f32) (x1 : Vec F S8x256x1x256 .f32) (x2 : Vec F S40x6 .f32) (x3 : Vec F S1x6 .f32)
  (x4 : Vec F S6x15 .f32) (x5 : Vec F S1x15 .f32)

/-- The logits of every image from the blocks of the six inputs. -/
def logits : FVec F S256x15 .f32 :=
  dense (feats (flat x0) (View.ld x1 r2_1) (View.ld x1 r2_2) (View.ld x1 r2_3)) (View.ld x2 r2_4) (View.ld x3 r2_5)
    (View.ld x4 r2_6) (View.ld x5 r2_7)

/-! The values of the body, in the order the frame names them, are these steps. -/

theorem e88 : k2_pay88 x0 x1 x2 x3 x4 x5 = cols := by
  unfold k2_pay88
  rfl
theorem e89 : k2_pay89 x0 x1 x2 x3 x4 x5 = hit (scores (flat x0) 0) := by
  unfold k2_pay89
  rfl
theorem e90 : k2_pay90 x0 x1 x2 x3 x4 x5 = scores (flat x0) 1 := by
  unfold k2_pay90
  rfl
theorem e91 : k2_pay91 x0 x1 x2 x3 x4 x5 = fx (flat x0) 0 := by
  unfold k2_pay91
  rfl
theorem e92 : k2_pay92 x0 x1 x2 x3 x4 x5 = fy (flat x0) 0 := by
  unfold k2_pay92
  rfl
theorem e93 : k2_pay93 x0 x1 x2 x3 x4 x5 = fc (flat x0) (View.ld x1 r2_1) 0 := by
  unfold k2_pay93
  rw [e89]
  rfl
theorem e94 : k2_pay94 x0 x1 x2 x3 x4 x5 = fc (flat x0) (View.ld x1 r2_2) 0 := by
  unfold k2_pay94
  rw [e89]
  rfl
theorem e95 : k2_pay95 x0 x1 x2 x3 x4 x5 = fc (flat x0) (View.ld x1 r2_3) 0 := by
  unfold k2_pay95
  rw [e89]
  rfl
theorem e96 : k2_pay96 x0 x1 x2 x3 x4 x5 = pickCol (scores (flat x0) 1) := by
  unfold k2_pay96
  rw [e88, e90]
  rfl
theorem e97 : k2_pay97 x0 x1 x2 x3 x4 x5 = hit (scores (flat x0) 1) := by
  unfold k2_pay97
  rw [e88, e90]
  rfl
theorem e98 : k2_pay98 x0 x1 x2 x3 x4 x5 = scores (flat x0) 2 := by
  unfold k2_pay98
  rw [e90, e97]
  rfl
theorem e99 : k2_pay99 x0 x1 x2 x3 x4 x5 = fx (flat x0) 1 := by
  unfold k2_pay99
  rw [e96]
  rfl
theorem e100 : k2_pay100 x0 x1 x2 x3 x4 x5 = fy (flat x0) 1 := by
  unfold k2_pay100
  rw [e96]
  rfl
theorem e101 : k2_pay101 x0 x1 x2 x3 x4 x5 = fc (flat x0) (View.ld x1 r2_1) 1 := by
  unfold k2_pay101
  rw [e97]
  rfl
theorem e102 : k2_pay102 x0 x1 x2 x3 x4 x5 = fc (flat x0) (View.ld x1 r2_2) 1 := by
  unfold k2_pay102
  rw [e97]
  rfl
theorem e103 : k2_pay103 x0 x1 x2 x3 x4 x5 = fc (flat x0) (View.ld x1 r2_3) 1 := by
  unfold k2_pay103
  rw [e97]
  rfl
theorem e104 : k2_pay104 x0 x1 x2 x3 x4 x5 = pickCol (scores (flat x0) 2) := by
  unfold k2_pay104
  rw [e88, e98]
  rfl
theorem e105 : k2_pay105 x0 x1 x2 x3 x4 x5 = hit (scores (flat x0) 2) := by
  unfold k2_pay105
  rw [e88, e98]
  rfl
theorem e106 : k2_pay106 x0 x1 x2 x3 x4 x5 = scores (flat x0) 3 := by
  unfold k2_pay106
  rw [e88, e98]
  rfl
theorem e107 : k2_pay107 x0 x1 x2 x3 x4 x5 = divsi (pickCol (scores (flat x0) 2)) (broadcast S256x1 64#32) := by
  unfold k2_pay107
  rw [e88, e98]
  rfl
theorem e108 : k2_pay108 x0 x1 x2 x3 x4 x5 = subi (extui 32 (cmpi .sgt (pickCol (scores (flat x0) 2)) (broadcast S256x1 0#32)) natLt_1_32) (extui 32 (cmpi .slt (pickCol (scores (flat x0) 2)) (broadcast S256x1 0#32)) natLt_1_32) := by
  unfold k2_pay108
  rw [e88, e98]
  rfl
theorem e109 : k2_pay109 x0 x1 x2 x3 x4 x5 = fx (flat x0) 2 := by
  unfold k2_pay109
  rw [e104, e107, e108]
  rfl
theorem e110 : k2_pay110 x0 x1 x2 x3 x4 x5 = fy (flat x0) 2 := by
  unfold k2_pay110
  rw [e104, e107, e108]
  rfl
theorem e111 : k2_pay111 x0 x1 x2 x3 x4 x5 = fc (flat x0) (View.ld x1 r2_1) 2 := by
  unfold k2_pay111
  rw [e105]
  rfl
theorem e112 : k2_pay112 x0 x1 x2 x3 x4 x5 = fc (flat x0) (View.ld x1 r2_2) 2 := by
  unfold k2_pay112
  rw [e105]
  rfl
theorem e113 : k2_pay113 x0 x1 x2 x3 x4 x5 = fc (flat x0) (View.ld x1 r2_3) 2 := by
  unfold k2_pay113
  rw [e105]
  rfl
theorem e114 : k2_pay114 x0 x1 x2 x3 x4 x5 = hit (scores (flat x0) 3) := by
  unfold k2_pay114
  rw [e88, e106]
  rfl
theorem e115 : k2_pay115 x0 x1 x2 x3 x4 x5 = scores (flat x0) 4 := by
  unfold k2_pay115
  rw [e88, e106]
  rfl
theorem e116 : k2_pay116 x0 x1 x2 x3 x4 x5 = fx (flat x0) 3 := by
  unfold k2_pay116
  rw [e88, e106]
  rfl
theorem e117 : k2_pay117 x0 x1 x2 x3 x4 x5 = fy (flat x0) 3 := by
  unfold k2_pay117
  rw [e88, e106]
  rfl
theorem e118 : k2_pay118 x0 x1 x2 x3 x4 x5 = fc (flat x0) (View.ld x1 r2_1) 3 := by
  unfold k2_pay118
  rw [e114]
  rfl
theorem e119 : k2_pay119 x0 x1 x2 x3 x4 x5 = fc (flat x0) (View.ld x1 r2_2) 3 := by
  unfold k2_pay119
  rw [e114]
  rfl
theorem e120 : k2_pay120 x0 x1 x2 x3 x4 x5 = fc (flat x0) (View.ld x1 r2_3) 3 := by
  unfold k2_pay120
  rw [e114]
  rfl
theorem e121 : k2_pay121 x0 x1 x2 x3 x4 x5 = pick (scores (flat x0) 4) := by
  unfold k2_pay121
  rw [e88, e115]
  rfl
theorem e122 : k2_pay122 x0 x1 x2 x3 x4 x5 = hit (scores (flat x0) 4) := by
  unfold k2_pay122
  rw [e88, e121]
  rfl
theorem e123 : k2_pay123 x0 x1 x2 x3 x4 x5 = scores (flat x0) 5 := by
  unfold k2_pay123
  rw [e88, e115, e121]
  rfl
theorem e124 : k2_pay124 x0 x1 x2 x3 x4 x5 = fx (flat x0) 4 := by
  unfold k2_pay124
  rw [e121]
  rfl
theorem e125 : k2_pay125 x0 x1 x2 x3 x4 x5 = fy (flat x0) 4 := by
  unfold k2_pay125
  rw [e121]
  rfl
theorem e126 : k2_pay126 x0 x1 x2 x3 x4 x5 = fc (flat x0) (View.ld x1 r2_1) 4 := by
  unfold k2_pay126
  rw [e122]
  rfl
theorem e127 : k2_pay127 x0 x1 x2 x3 x4 x5 = fc (flat x0) (View.ld x1 r2_2) 4 := by
  unfold k2_pay127
  rw [e122]
  rfl
theorem e128 : k2_pay128 x0 x1 x2 x3 x4 x5 = fc (flat x0) (View.ld x1 r2_3) 4 := by
  unfold k2_pay128
  rw [e122]
  rfl
theorem e129 : k2_pay129 x0 x1 x2 x3 x4 x5 = pickCol (scores (flat x0) 5) := by
  unfold k2_pay129
  rw [e88, e123]
  rfl
theorem e130 : k2_pay130 x0 x1 x2 x3 x4 x5 = hit (scores (flat x0) 5) := by
  unfold k2_pay130
  rw [e88, e123]
  rfl
theorem e131 : k2_pay131 x0 x1 x2 x3 x4 x5 = scores (flat x0) 6 := by
  unfold k2_pay131
  rw [e88, e123]
  rfl
theorem e132 : k2_pay132 x0 x1 x2 x3 x4 x5 = divsi (pickCol (scores (flat x0) 5)) (broadcast S256x1 64#32) := by
  unfold k2_pay132
  rw [e88, e123]
  rfl
theorem e133 : k2_pay133 x0 x1 x2 x3 x4 x5 = subi (extui 32 (cmpi .sgt (pickCol (scores (flat x0) 5)) (broadcast S256x1 0#32)) natLt_1_32) (extui 32 (cmpi .slt (pickCol (scores (flat x0) 5)) (broadcast S256x1 0#32)) natLt_1_32) := by
  unfold k2_pay133
  rw [e88, e123]
  rfl
theorem e134 : k2_pay134 x0 x1 x2 x3 x4 x5 = fx (flat x0) 5 := by
  unfold k2_pay134
  rw [e129, e132, e133]
  rfl
theorem e135 : k2_pay135 x0 x1 x2 x3 x4 x5 = fy (flat x0) 5 := by
  unfold k2_pay135
  rw [e129, e132, e133]
  rfl
theorem e136 : k2_pay136 x0 x1 x2 x3 x4 x5 = fc (flat x0) (View.ld x1 r2_1) 5 := by
  unfold k2_pay136
  rw [e130]
  rfl
theorem e137 : k2_pay137 x0 x1 x2 x3 x4 x5 = fc (flat x0) (View.ld x1 r2_2) 5 := by
  unfold k2_pay137
  rw [e130]
  rfl
theorem e138 : k2_pay138 x0 x1 x2 x3 x4 x5 = fc (flat x0) (View.ld x1 r2_3) 5 := by
  unfold k2_pay138
  rw [e130]
  rfl
theorem e139 : k2_pay139 x0 x1 x2 x3 x4 x5 = hit (scores (flat x0) 6) := by
  unfold k2_pay139
  rw [e88, e131]
  rfl
theorem e140 : k2_pay140 x0 x1 x2 x3 x4 x5 = rowOf (pickCol (scores (flat x0) 6)) := by
  unfold k2_pay140
  rw [e88, e131]
  rfl
theorem e141 : k2_pay141 x0 x1 x2 x3 x4 x5 = fx (flat x0) 6 := by
  unfold k2_pay141
  rw [e140]
  rfl
theorem e142 : k2_pay142 x0 x1 x2 x3 x4 x5 = fy (flat x0) 6 := by
  unfold k2_pay142
  rw [e88, e131, e140]
  rfl
theorem e143 : k2_pay143 x0 x1 x2 x3 x4 x5 = fc (flat x0) (View.ld x1 r2_1) 6 := by
  unfold k2_pay143
  rw [e139]
  rfl
theorem e144 : k2_pay144 x0 x1 x2 x3 x4 x5 = fc (flat x0) (View.ld x1 r2_2) 6 := by
  unfold k2_pay144
  rw [e139]
  rfl
theorem e145 : k2_pay145 x0 x1 x2 x3 x4 x5 = fc (flat x0) (View.ld x1 r2_3) 6 := by
  unfold k2_pay145
  rw [e139]
  rfl
theorem e146 : k2_pay146 x0 x1 x2 x3 x4 x5 = cmpf .oge (scores (flat x0) 7) (top (scores (flat x0) 7)) := by
  unfold k2_pay146
  rw [e88, e131]
  rfl
theorem e147 : k2_pay147 x0 x1 x2 x3 x4 x5 = broadcast S256x256 256#32 := by
  unfold k2_pay147
  rfl
theorem e148 : k2_pay148 x0 x1 x2 x3 x4 x5 = hit (scores (flat x0) 7) := by
  unfold k2_pay148
  rw [e88, e146, e147]
  rfl
theorem e149 : k2_pay149 x0 x1 x2 x3 x4 x5 = fx (flat x0) 7 := by
  unfold k2_pay149
  rw [e88, e146, e147]
  rfl
theorem e150 : k2_pay150 x0 x1 x2 x3 x4 x5 = fy (flat x0) 7 := by
  unfold k2_pay150
  rw [e88, e146, e147]
  rfl
theorem e151 : k2_pay151 x0 x1 x2 x3 x4 x5 = logits x0 x1 x2 x3 x4 x5 := by
  unfold k2_pay151
  rw [e91, e92, e93, e94, e95, e99, e100, e101, e102, e103, e109, e110, e111, e112, e113, e116, e117, e118, e119, e120, e124, e125, e126, e127, e128, e134, e135, e136, e137, e138, e141, e142, e143, e144, e145, e148, e149, e150]
  rfl

/-- The actions' buffer holds the softmax of the logits. -/
theorem out6 : out2_6 x0 x1 x2 x3 x4 x5 = View.canon [⟨r2_8, soft (logits x0 x1 x2 x3 x4 x5)⟩] := by
  rw [← e151]
  rfl

/-- The selected buffer holds the first action of largest logit. -/
theorem out7 : out2_7 x0 x1 x2 x3 x4 x5 = View.canon [⟨r2_9, choice (logits x0 x1 x2 x3 x4 x5)⟩] := by
  rw [← e151]
  rfl

end Cert.Proof.Stage2
-- ==== Proof.Array2.lean ====
/- What the third stage leaves: the softmax of the logits and the first action of largest logit, from whole arrays. -/
module

public import proofs.«01_k».proof.Proof.Stage2
public import Idealize.ShloMosaic.Lib.Pipeline.ValueKit
public import Idealize.ShloMosaic.Lib.Pointwise

@[expose] public section

set_option maxRecDepth 16384

noncomputable section

namespace Cert.Proof.Stage2

open Cert.KernelIdeal Cert.KernelIdeal.Gen
open Idealize.ShloMosaic Idealize.ShloMosaic.TcCoe
open Idealize.ShloMosaic.Pipeline (Dat)

variable (V : (c : Dev nD) → (b : Ref sig .tc) → Buf (Elt Ideal) ((c : Thread nD τ).loc b))

theorem index2_0 : ∀ t : Fin cfg2.N, win2_0.index t = ![0, 0, 0] := (by decide +kernel : ∀ t : Fin grid2.N, _)

theorem block2_0 (c : Dev nD) (t : Fin cfg2.N) : iblk2 V c 0 t = V c (Pipeline.arrRef spec2 0) := by
  funext x
  blk_ext [iblk2, index2_0 t]

theorem index2_1 : ∀ t : Fin cfg2.N, win2_1.index t = ![0, 0, 0, 0] := (by decide +kernel : ∀ t : Fin grid2.N, _)

theorem block2_1 (c : Dev nD) (t : Fin cfg2.N) : iblk2 V c 1 t = V c (Pipeline.arrRef spec2 1) := by
  funext x
  blk_ext [iblk2, index2_1 t]

theorem index2_2 : ∀ t : Fin cfg2.N, win2_2.index t = ![0, 0] := (by decide +kernel : ∀ t : Fin grid2.N, _)

theorem block2_2 (c : Dev nD) (t : Fin cfg2.N) : iblk2 V c 2 t = V c (Pipeline.arrRef spec2 2) := by
  funext x
  blk_ext [iblk2, index2_2 t]

theorem index2_3 : ∀ t : Fin cfg2.N, win2_3.index t = ![0, 0] := (by decide +kernel : ∀ t : Fin grid2.N, _)

theorem block2_3 (c : Dev nD) (t : Fin cfg2.N) : iblk2 V c 3 t = V c (Pipeline.arrRef spec2 3) := by
  funext x
  blk_ext [iblk2, index2_3 t]

theorem index2_4 : ∀ t : Fin cfg2.N, win2_4.index t = ![0, 0] := (by decide +kernel : ∀ t : Fin grid2.N, _)

theorem block2_4 (c : Dev nD) (t : Fin cfg2.N) : iblk2 V c 4 t = V c (Pipeline.arrRef spec2 4) := by
  funext x
  blk_ext [iblk2, index2_4 t]

theorem index2_5 : ∀ t : Fin cfg2.N, win2_5.index t = ![0, 0] := (by decide +kernel : ∀ t : Fin grid2.N, _)

theorem block2_5 (c : Dev nD) (t : Fin cfg2.N) : iblk2 V c 5 t = V c (Pipeline.arrRef spec2 5) := by
  funext x
  blk_ext [iblk2, index2_5 t]

theorem index2_6 : ∀ t : Fin cfg2.N, win2_6.index t = ![0, 0] := (by decide +kernel : ∀ t : Fin grid2.N, _)

theorem index2_7 : ∀ t : Fin cfg2.N, win2_7.index t = ![0, 0] := (by decide +kernel : ∀ t : Fin grid2.N, _)

/-- The logits from the arrays as the launch finds them. -/
def logits2 (c : Dev nD) : FVec Ideal S256x15 .f32 :=
  logits (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))

theorem zero2 : (![0, 0] : Fin 2 → Nat) = fun _ => 0 := funext fun a => by fin_cases a <;> rfl

/-- The actions' array ends at the softmax of the logits. -/
theorem array2_6 (c : Dev nD) : (dat2 V c).arrAt 6 cfg2.N = soft (logits2 V c) := by
  refine (dat2 V c).arrAt_eq_of_after_last 6 t2_0 (by decide +kernel) _ fun j => ?_
  blk_simp
  rw [after2_6, out6, block2_0, block2_1, block2_2, block2_3, block2_4, block2_5, View.canon_unit_zero zero2]
  rfl

/-- The selected array ends at the first action of largest logit. -/
theorem array2_7 (c : Dev nD) : (dat2 V c).arrAt 7 cfg2.N = choice (logits2 V c) := by
  refine (dat2 V c).arrAt_eq_of_after_last 7 t2_0 (by decide +kernel) _ fun j => ?_
  blk_simp
  rw [after2_7, out7, block2_0, block2_1, block2_2, block2_3, block2_4, block2_5, View.canon_unit_zero zero2]
  rfl

end Cert.Proof.Stage2
-- ==== Proof.Heads.lean ====
/- The third stage's steps, read at an index. -/
module

public import proofs.«01_k».proof.Proof.Stage2
public import proofs.«01_k».proof.Proof.Order
public import proofs.«01_k».proof.Proof.Consts
public import Idealize.ShloMosaic.Lib.Pointwise

@[expose] public section

set_option maxRecDepth 16384

noncomputable section

namespace Cert.Proof.Stage2

open Cert.KernelIdeal Cert.KernelIdeal.Gen
open Idealize.ShloMosaic Idealize.ShloMosaic.TcCoe

theorem top_at (p : FVec Ideal S256x256 .f32) (n j : Fin 256) :
    top p (ix2 n j) = Finset.univ.fold max ⊥ fun k : Fin 256 => p (ix2 n k) := by
  pointwise [top]
  rw [ofBits_bot]

theorem pick_at (p : FVec Ideal S256x256 .f32) (n : Fin 256) :
    pick p (ix1 n) = Finset.univ.fold IntOp.minsi 2147483647#32 fun k : Fin 256 =>
      if top p (ix2 n k) ≤ p (ix2 n k) then BitVec.ofNat 32 k else BitVec.ofNat 32 256 := by
  pointwise [pick, cols]

theorem hit_at (p : FVec Ideal S256x256 .f32) (n j : Fin 256) :
    hit p (ix2 n j) = if BitVec.ofNat 32 j = pick p (ix1 n) then 1#1 else 0#1 := by
  pointwise [hit, cols, pickCol]
  show BitVec.ofBool (decide _) = _
  by_cases h : BitVec.ofNat 32 (j : ℕ) = pick p (ix1 n) <;> simp [h]

theorem next_at (p : FVec Ideal S256x256 .f32) (n j : Fin 256) :
    next p (ix2 n j) = if hit p (ix2 n j) = 1#1 then -1 else p (ix2 n j) := by
  pointwise [next]
  rw [ofBits_neg_one]
  rfl

theorem rowOf_at (i : IVec S256x1 32) (n m : Fin 256) (h : i (ix2 n 0) = BitVec.ofNat 32 m) :
    rowOf i (ix2 n 0) = BitVec.ofNat 32 (m / 64) := by
  pointwise [rowOf]
  rw [h]
  exact (by decide +kernel : ∀ m : Fin 256, Scalar.select
      (IntOp.andi
        (IntOp.cmpi CmpIPredicate.ne
          (IntOp.subi (BitVec.setWidth 32 (IntOp.cmpi CmpIPredicate.sgt (BitVec.ofNat 32 m) 0#32))
            (BitVec.setWidth 32 (IntOp.cmpi CmpIPredicate.slt (BitVec.ofNat 32 m) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 m) 64#32) 0#32))
      (IntOp.subi (IntOp.divsi ArithUnit.vector (BitVec.ofNat 32 m) 64#32) 1#32)
      (IntOp.divsi ArithUnit.vector (BitVec.ofNat 32 m) 64#32) =
    BitVec.ofNat 32 (m / 64)) m

theorem colOf_at (i : IVec S256x1 32) (n m : Fin 256) (h : i (ix2 n 0) = BitVec.ofNat 32 m) :
    colOf i (ix2 n 0) = BitVec.ofNat 32 (m % 64) := by
  pointwise [colOf]
  rw [rowOf_at i n m h, h]
  exact (by decide +kernel : ∀ m : Fin 256, IntOp.subi (BitVec.ofNat 32 m) (IntOp.muli (BitVec.ofNat 32 (m / 64)) 64#32)
    = BitVec.ofNat 32 (m % 64)) m

theorem centre_at (i : IVec S256x1 32) (n : Fin 256) (m : ℕ) (hm : m < 256) (h : i (ix2 n 0) = BitVec.ofNat 32 m) :
    centre (F := Ideal) i (ix2 n 0) = (((m : ℝ) + 2) / 64 : ℝ) := by
  pointwise [centre]
  rw [h, ofBits_two, ofBits_inv64]
  show ((((BitVec.ofNat 32 m).toInt : ℝ) : EReal) + _) * _ = _
  rw [toInt_ofNat_small m (by omega), ← EReal.coe_add, ← EReal.coe_mul, div_eq_mul_inv]
  rfl

theorem colour_at (h : IVec S256x256 1) (v : Vec Ideal S1x256x1x256 .f32) (n : Fin 256) :
    colour h v (ix2 n 0) = ∑ k : Fin 256, if h (ix2 n k) = 1#1 then v (ix4 0 n 0 k) else 0 := by
  pointwise [colour]
  rfl

theorem dense_at (x : FVec Ideal S256x40 .f32) (w1 : Vec Ideal S40x6 .f32) (b1 : Vec Ideal S1x6 .f32)
    (w2 : Vec Ideal S6x15 .f32) (b2 : Vec Ideal S1x15 .f32) (n : Fin 256) (a : Fin 15) :
    dense x w1 b1 w2 b2 (ix2 n a) =
      (∑ h : Fin 6, ((∑ f : Fin 40, x (ix2 n f) * w1 (ix2 f h)) + b1 (ix2 0 h)) * w2 (ix2 h a)) + b2 (ix2 0 a) := by
  pointwise [dense]

theorem peak_at (l : FVec Ideal S256x15 .f32) (n : Fin 256) (a : Fin 15) :
    peak l (ix2 n a) = Finset.univ.fold max ⊥ fun k : Fin 15 => l (ix2 n k) := by
  pointwise [peak]
  rw [ofBits_bot]

theorem soft_at (l : FVec Ideal S256x15 .f32) (n : Fin 256) (a : Fin 15) :
    soft l (ix2 n a) = Ideal.div (Ideal.exp (l (ix2 n a) - peak l (ix2 n a)))
      (∑ k : Fin 15, Ideal.exp (l (ix2 n k) - peak l (ix2 n k))) := by
  pointwise [soft]

theorem choice_at (l : FVec Ideal S256x15 .f32) (n : Fin 256) :
    choice l (ix2 0 n) = Finset.univ.fold IntOp.minsi 2147483647#32 fun k : Fin 15 =>
      if peak l (ix2 n k) ≤ l (ix2 n k) then BitVec.ofNat 32 k else BitVec.ofNat 32 15 := by
  pointwise [choice]

theorem flat_at (x0 : Vec Ideal S256x1x256 .f32) (n p : Fin 256) : flat x0 (ix2 n p) = x0 (ix3 n 0 p) := by
  pointwise [flat]

end Cert.Proof.Stage2
-- ==== Proof.Picks.lean ====
/- The third stage's rounds are the rounds of the scores, its features the features, its choice the first maximum. -/
module

public import proofs.«01_k».proof.Proof.Heads
public import proofs.«01_k».proof.Proof.Spec

@[expose] public section

set_option maxRecDepth 16384

noncomputable section

namespace Cert.Proof.Stage2

open Cert.KernelIdeal Cert.KernelIdeal.Gen
open Idealize.ShloMosaic Idealize.ShloMosaic.TcCoe

/-- The pick is the row's first maximum. -/
theorem pick_first (p : FVec Ideal S256x256 .f32) (n : Fin 256) :
    pick p (ix1 n) = BitVec.ofNat 32 (first fun j : Fin 256 => p (ix2 n j)) := by
  have h := isFirst_first fun j : Fin 256 => (p (ix2 n j) : EReal)
  rw [pick_at]
  refine h.fold_minsi (by decide) _ fun j => ?_
  rw [top_at, h.fold_max]

theorem ofNat_inj (a b : Fin 256) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

/-- The mask is set at the first maximum alone. -/
theorem hit_first (p : FVec Ideal S256x256 .f32) (n j : Fin 256) :
    hit p (ix2 n j) = if j = first (fun j : Fin 256 => p (ix2 n j)) then 1#1 else 0#1 := by
  rw [hit_at, pick_first]
  exact if_congr (ofNat_inj _ _) rfl rfl

/-- The scores after `k` rounds. -/
theorem scores_rounds (p : FVec Ideal S256x256 .f32) (n : Fin 256) (k : ℕ) :
    (fun j : Fin 256 => (scores p k (ix2 n j) : EReal)) = rounds (fun j : Fin 256 => p (ix2 n j)) k := by
  induction k with
  | zero => rfl
  | succ k ih =>
    funext j
    show next (scores p k) (ix2 n j) = if j = first (rounds (fun j : Fin 256 => p (ix2 n j)) k) then -1
      else rounds (fun j : Fin 256 => p (ix2 n j)) k j
    rw [next_at, hit_first, ← ih]
    by_cases h : j = first fun j : Fin 256 => (scores p k (ix2 n j) : EReal)
    · rw [if_pos h, if_pos rfl, if_pos h]
    · rw [if_neg h, if_neg (by decide), if_neg h]

theorem first_scores (p : FVec Ideal S256x256 .f32) (n : Fin 256) (k : ℕ) :
    first (fun j : Fin 256 => (scores p k (ix2 n j) : EReal)) = best (fun j : Fin 256 => p (ix2 n j)) k :=
  congrArg first (scores_rounds p n k)

theorem pickCol_best (p : FVec Ideal S256x256 .f32) (n : Fin 256) (k : ℕ) :
    pickCol (scores p k) (ix2 n 0) = BitVec.ofNat 32 (best (fun j : Fin 256 => p (ix2 n j)) k) := by
  have e : pickCol (scores p k) (ix2 n 0) = pick (scores p k) (ix1 n) := by pointwise [pickCol]
  rw [e, pick_first, first_scores]

theorem fx_at (p : FVec Ideal S256x256 .f32) (n : Fin 256) (k : ℕ) :
    fx p k (ix2 n 0) = ((((best (fun j : Fin 256 => p (ix2 n j)) k / 64 : ℕ) : ℝ) + 2) / 64 : ℝ) :=
  centre_at _ n _ (by omega) (rowOf_at _ n _ (pickCol_best p n k))

theorem fy_at (p : FVec Ideal S256x256 .f32) (n : Fin 256) (k : ℕ) :
    fy p k (ix2 n 0) = ((((best (fun j : Fin 256 => p (ix2 n j)) k % 64 : ℕ) : ℝ) + 2) / 64 : ℝ) :=
  centre_at _ n _ (by omega) (colOf_at _ n _ (pickCol_best p n k))

theorem fc_at (p : FVec Ideal S256x256 .f32) (v : Vec Ideal S1x256x1x256 .f32) (n : Fin 256) (k : ℕ) :
    fc p v k (ix2 n 0) = v (ix4 0 n 0 (best (fun j : Fin 256 => p (ix2 n j)) k)) := by
  unfold fc
  rw [colour_at]
  simp only [hit_first, first_scores]
  refine (Finset.sum_congr rfl fun q _ => ?_).trans ((Finset.sum_ite_eq' Finset.univ
    (best (fun j : Fin 256 => p (ix2 n j)) k) fun q => v (ix4 0 n 0 q)).trans (if_pos (Finset.mem_univ _)))
  by_cases h : q = best (fun j : Fin 256 => p (ix2 n j)) k
  · rw [if_pos h, if_pos rfl, if_pos h]
  · rw [if_neg h, if_neg (by decide), if_neg h]

/-- The choice is the first largest logit. -/
theorem choice_first (l : FVec Ideal S256x15 .f32) (n : Fin 256) :
    choice l (ix2 0 n) = BitVec.ofNat 32 (first fun a : Fin 15 => l (ix2 n a)) := by
  have h := isFirst_first fun j : Fin 15 => (l (ix2 n j) : EReal)
  rw [choice_at]
  refine h.fold_minsi (by decide) _ fun j => ?_
  rw [peak_at, h.fold_max]

theorem soft_soften (l : FVec Ideal S256x15 .f32) (n : Fin 256) (a : Fin 15) :
    soft l (ix2 n a) = soften (fun a : Fin 15 => l (ix2 n a)) a := by
  rw [soft_at]
  simp only [peak_at]
  rfl

end Cert.Proof.Stage2
-- ==== Proof.Feats.lean ====
/- The third stage's forty features. -/
module

public import proofs.«01_k».proof.Proof.Picks
public import Idealize.ShloMosaic.Lib.Pipeline.ValueKit

@[expose] public section

set_option maxRecDepth 16384

noncomputable section

namespace Cert.Proof.Stage2

open Cert.KernelIdeal Cert.KernelIdeal.Gen
open Idealize.ShloMosaic Idealize.ShloMosaic.TcCoe

/-- Column `q` of the features. -/
def column (p : FVec Ideal S256x256 .f32) (r g b : Vec Ideal S1x256x1x256 .f32) (q : ℕ) : FVec Ideal S256x1 .f32 :=
  match q % 5 with
  | 0 => fx p (q / 5)
  | 1 => fy p (q / 5)
  | 2 => fc p r (q / 5)
  | 3 => fc p g (q / 5)
  | _ => fc p b (q / 5)

theorem column_at (p : FVec Ideal S256x256 .f32) (r g b : Vec Ideal S1x256x1x256 .f32) (n : Fin 256) (q : ℕ) :
    column p r g b q (ix2 n 0)
      = piece (fun j : Fin 256 => p (ix2 n j)) (fun ch k => ![r, g, b] ch (ix4 0 n 0 k)) (q / 5) (q % 5) := by
  have h5 : q % 5 < 5 := Nat.mod_lt _ (by decide)
  unfold column piece
  generalize q % 5 = t at h5
  interval_cases t
  · exact fx_at p n _
  · exact fy_at p n _
  · exact fc_at p r n _
  · exact fc_at p g n _
  · exact fc_at p b n _

/-- The forty columns are the features' pieces. -/
theorem columns (p : FVec Ideal S256x256 .f32) (r g b : Vec Ideal S1x256x1x256 .f32) (h) :
    feats p r g b = concatenate S256x40 1 (List.ofFn fun q : Fin 40 => (⟨S256x1, column p r g b q⟩ : (s : Shape) × (s.Idx → EReal))) h := rfl

theorem feats_at (p : FVec Ideal S256x256 .f32) (r g b : Vec Ideal S1x256x1x256 .f32) (n : Fin 256) (f : Fin 40) :
    feats p r g b (ix2 n f)
      = feature (fun j : Fin 256 => p (ix2 n j)) (fun ch q => ![r, g, b] ch (ix4 0 n 0 q)) f := by
  have h : Shape.Concatenates ((List.ofFn fun q : Fin 40 => (⟨S256x1, column p r g b q⟩ : (s : Shape) × (s.Idx → EReal))).map (·.1))
      S256x40 1 := by
    rw [show (List.ofFn fun q : Fin 40 => (⟨S256x1, column p r g b q⟩ : (s : Shape) × (s.Idx → EReal))).map (·.1)
      = List.replicate 40 S256x1 from rfl]
    decide
  rw [columns p r g b h]
  refine (concatenate_ofFn_unit_apply 1 _ h rfl rfl (ix2 n f) f rfl (ix2 n 0) (fun a ha => ?_)).trans (column_at p r g b n f)
  fin_cases a
  · rfl
  · exact absurd rfl ha

end Cert.Proof.Stage2
-- ==== Proof.Final.lean ====
/- What the kernel leaves in its two results, index by index, from the nine arguments. -/
module

public import proofs.«01_k».proof.Proof.Chain
public import proofs.«01_k».proof.Proof.Array2
public import proofs.«01_k».proof.Proof.Feats

@[expose] public section

set_option maxRecDepth 16384

noncomputable section

namespace Cert.Proof.Chain

open Cert.KernelIdeal Cert.KernelIdeal.Gen
open Idealize.ShloMosaic Idealize.ShloMosaic.TcCoe

variable (m : (ℓ : Loc nD τ sig) → Buf (Elt Ideal) ℓ) (ρ : Dev nD → PrngReg) (c : Dev nD)

theorem v5_scores : W5 m ρ c (Proc.devRef .tc (Pipeline.arrRef spec2 0)) = Stage1.sums1 (V3 m ρ) c :=
  (W5_of m ρ c _ (by decide)).trans ((W4_arr m ρ c 7).trans (Stage1.array1_7 (V3 m ρ) c))
theorem v5_means : W5 m ρ c (Proc.devRef .tc (Pipeline.arrRef spec2 1)) = Stage1.means1 (V3 m ρ) c :=
  (W5_of m ρ c _ (by decide)).trans ((W4_arr m ρ c 8).trans (Stage1.array1_8 (V3 m ρ) c))

theorem flat_scores (n p : Fin 256) :
    Stage2.flat (V5 m ρ c (Pipeline.arrRef spec2 0)) (ix2 n p) = (args m c).score n p :=
  (Stage2.flat_at _ n p).trans ((congrFun (v5_scores m ρ c) _).trans (score m ρ c n p))

theorem means1_at (V : (c : Dev nD) → (b : Ref sig .tc) → Buf (Elt Ideal) ((c : Thread nD τ).loc b)) (ch : Fin 8)
    (n p : Fin 256) : Stage1.means1 V c (ix4 ch n 0 p) = Stage1.meansOf V c n (ix4 ch 0 0 p) := rfl

theorem mean_of (n p : Fin 256) (ch : Fin 3) :
    (V5 m ρ c (Pipeline.arrRef spec2 1) : S8x256x1x256.Idx → EReal) (ix4 ⟨ch, by omega⟩ n 0 p) = (args m c).mean n ch p :=
  (congrFun (v5_means m ρ c) _).trans ((means1_at c (V3 m ρ) _ n p).trans (mean m ρ c n p ch))

theorem ld_0 (X : Vec Ideal S8x256x1x256 .f32) (n p : Fin 256) :
    View.ld X r2_1 (ix4 0 n 0 p) = X (ix4 ⟨(0 : Fin 3), by decide⟩ n 0 p) := by
  refine View.ld_unit_apply_of X ![0, 0, 0, 0] S1x256x1x256.size _ (ix4 0 n 0 p) _ fun a => ?_
  fin_cases a
  · rfl
  all_goals exact (zero_add _).symm
theorem ld_1 (X : Vec Ideal S8x256x1x256 .f32) (n p : Fin 256) :
    View.ld X r2_2 (ix4 0 n 0 p) = X (ix4 ⟨(1 : Fin 3), by decide⟩ n 0 p) := by
  refine View.ld_unit_apply_of X ![1, 0, 0, 0] S1x256x1x256.size _ (ix4 0 n 0 p) _ fun a => ?_
  fin_cases a
  · rfl
  all_goals exact (zero_add _).symm
theorem ld_2 (X : Vec Ideal S8x256x1x256 .f32) (n p : Fin 256) :
    View.ld X r2_3 (ix4 0 n 0 p) = X (ix4 ⟨(2 : Fin 3), by decide⟩ n 0 p) := by
  refine View.ld_unit_apply_of X ![2, 0, 0, 0] S1x256x1x256.size _ (ix4 0 n 0 p) _ fun a => ?_
  fin_cases a
  · rfl
  all_goals exact (zero_add _).symm

/-- The features of image `n`. -/
theorem feats (n : Fin 256) (f : Fin 40) :
    Stage2.feats (Stage2.flat (V5 m ρ c (Pipeline.arrRef spec2 0))) (View.ld (V5 m ρ c (Pipeline.arrRef spec2 1)) r2_1)
        (View.ld (V5 m ρ c (Pipeline.arrRef spec2 1)) r2_2) (View.ld (V5 m ρ c (Pipeline.arrRef spec2 1)) r2_3) (ix2 n f)
      = feature ((args m c).score n) ((args m c).mean n) f := by
  refine (Stage2.feats_at _ _ _ _ n f).trans (congrArg₂ (fun s v => feature s v f) (funext fun p => flat_scores m ρ c n p)
    (funext fun ch => funext fun p => ?_))
  fin_cases ch
  · exact (ld_0 _ n p).trans (mean_of m ρ c n p 0)
  · exact (ld_1 _ n p).trans (mean_of m ρ c n p 1)
  · exact (ld_2 _ n p).trans (mean_of m ρ c n p 2)

theorem ld_all {S : Shape} {e : EltTy} (X : S.Idx → Elt Ideal e) (off : Fin S.rank → ℕ) (inb) (h : ∀ a, off a = 0)
    (x : S.Idx) : View.ld X (Rect.unit off S.size inb) x = X x :=
  View.ld_unit_apply_of X off S.size inb x x fun a => by rw [h a, zero_add]

/-- The logits of image `n`. -/
theorem logit (n : Fin 256) (a : Fin 15) : Stage2.logits2 (V5 m ρ) c (ix2 n a) = (args m c).logit n a := by
  refine (Stage2.dense_at _ _ _ _ _ n a).trans ?_
  have z : ∀ a : Fin 2, (![0, 0] : Fin 2 → ℕ) a = 0 := by decide
  refine congrArg₂ (fun a b : EReal => a + b) (Finset.sum_congr rfl fun h _ => congrArg₂ (fun a b : EReal => a * b)
    (congrArg₂ (fun a b : EReal => a + b) (Finset.sum_congr rfl fun f _ => congrArg₂ (fun a b : EReal => a * b)
      (feats m ρ c n f) ?_) ?_) ?_) ?_
  · exact (ld_all _ _ _ z _).trans (Host.w1_at m ρ c f h)
  · exact (ld_all _ _ _ z _).trans (Host.b1_at m ρ c h)
  · exact (ld_all _ _ _ z _).trans (Host.w2_at m ρ c h a)
  · exact (ld_all _ _ _ z _).trans (Host.b2_at m ρ c a)

/-- The kernel's second result. -/
theorem result_actions (n : Fin 256) (a : Fin 15) :
    (W7 m ρ c (Proc.devRef .tc main_v14_0) : S256x15.Idx → EReal) (ix2 n a) = (args m c).action n a := by
  have e : W7 m ρ c (Proc.devRef .tc main_v14_0) = Stage2.soft (Stage2.logits2 (V5 m ρ) c) :=
    (W7_of m ρ c _ (by decide)).trans ((W6_arr m ρ c 6).trans (Stage2.array2_6 (V5 m ρ) c))
  refine (congrFun e _).trans ((Stage2.soft_soften _ n a).trans ?_)
  exact congrArg (fun v => soften v a) (funext fun a => logit m ρ c n a)

/-- The kernel's first result. -/
theorem result_chosen (n : Fin 256) :
    (W7 m ρ c (Proc.devRef .tc main_v15) : S256.Idx → BitVec 32) (ix1 n) = BitVec.ofNat 32 ((args m c).chosen n) := by
  have e : W6 m ρ c (Proc.devRef .tc main_v14_1) = Stage2.choice (Stage2.logits2 (V5 m ρ) c) :=
    (W6_arr m ρ c 7).trans (Stage2.array2_7 (V5 m ρ) c)
  refine (Host.selected_at m ρ c n).trans ((congrFun e _).trans ((Stage2.choice_first _ n).trans ?_))
  exact congrArg (fun v : Fin 15 → EReal => BitVec.ofNat 32 (first v)) (funext fun a => logit m ρ c n a)

end Cert.Proof.Chain
-- ==== Proof.RefOrder.lean ====
/- The reference's top-k and its arg-max, read at an index. -/
module

public import proofs.«01_k».proof.Proof.Order
public import proofs.«01_k».proof.Proof.Consts
public import proofs.«01_k».proof.ReferenceIdeal
public import Idealize.ShloMosaic.PureOps.Ideal.Laws
public import Idealize.ShloMosaic.Lib.Pointwise

@[expose] public section

set_option maxRecDepth 16384

noncomputable section

namespace Cert.Proof.Ref

open Cert.ReferenceIdeal
open Idealize.ShloMosaic

/-- The index at which a row of 256 scores is read along. -/
theorem along_eq (n : Fin 256) (j k : Fin 256) : (ix2 n j : S256x256.Idx).along (1 : Fin 2) k = ix2 n k := by
  funext a
  fin_cases a <;> rfl

/-- The second result of a sort along the rows: the second operand, read where the row's sort takes the entry from. -/
theorem sort2_row {β : Type} (cmp : EReal × β → EReal × β → BitVec 1) (x : S256x256.Idx → EReal) (y : S256x256.Idx → β)
    (n m : Fin 256) :
    (Host.sort2 S256x256 1 cmp x y).2 (ix2 n m) = y (ix2 n (sortedFrom (fun k k' : Fin 256 =>
      cmp (x (ix2 n k), y (ix2 n k)) (x (ix2 n k'), y (ix2 n k')) == 1#1) m)) := by
  unfold Host.sort2
  rw [dif_pos (by decide)]
  show y ((ix2 n m : S256x256.Idx).along (1 : Fin 2) (sortedFrom (fun k k' : Fin 256 =>
      cmp (x ((ix2 n m : S256x256.Idx).along (1 : Fin 2) k), y ((ix2 n m : S256x256.Idx).along (1 : Fin 2) k))
        (x ((ix2 n m : S256x256.Idx).along (1 : Fin 2) k'), y ((ix2 n m : S256x256.Idx).along (1 : Fin 2) k')) == 1#1) m)) = _
  simp only [along_eq]
  exact congrArg y (along_eq n m _)

/-- The `k`-th of the top eight of a row without negatives is what round `k` picks. -/
theorem topK_row (x : S256x256.Idx → EReal) (n : Fin 256) (k : Fin 8) (hs : ∀ j, 0 ≤ x (ix2 n j))
    (hf : S256x256.Slices (fun _ => 0) S256x8) :
    (Host.topK S256x8 1 (FloatOps.cmpfTotal (F := Ideal) (φ := .f32) .gt) x hf).2 (ix2 n k)
      = BitVec.ofNat 32 (best (fun j => x (ix2 n j)) k) := by
  have hsort := sortedFrom_best (s := fun j => x (ix2 n j)) hs (m := 8) (by decide)
    (fun a b => FloatOps.cmpfTotal (F := Ideal) (φ := .f32) .gt (x (ix2 n a)) (x (ix2 n b)) == 1#1) (fun a b => by
      rw [Ideal.cmpfTotal_def]
      simp only [Ideal.cmp, CmpDirection.ordered]
      by_cases h : x (ix2 n b) < x (ix2 n a) <;> simp [h]) k
  rw [← hsort]
  unfold Host.topK
  dsimp only
  unfold extractStridedSlice
  refine (congrArg (Host.sort2 S256x256 1 _ x _).2 (?_ : _ = ix2 n (k.castLE (by decide)))).trans ((sort2_row _ x _ n _).trans ?_)
  · funext a
    fin_cases a <;> exact Fin.ext (zero_add _)
  · rfl

/-- The reducer keeps one of its two pairs where the pairs differ in value or the first has the lower index. -/
theorem reducer_spec (a b : EReal × BitVec 32) :
    reducer_argmax_f32_i32 (F := Ideal) a b
      = if b.1 < a.1 then a else if a.1 = b.1 ∧ a.2.toInt < b.2.toInt then a else b := by
  obtain ⟨a1, a2⟩ := a
  obtain ⟨b1, b2⟩ := b
  unfold reducer_argmax_f32_i32
  simp only [Ideal.cmpf_def, Ideal.cmp]
  have hor : ∀ v : BitVec 1, 1#1 ||| v = 1#1 := by decide
  by_cases h1 : b1 < a1
  · simp [h1, Scalar.select, IntOp.ori, hor]
  · by_cases h2 : a1 = b1
    · subst h2
      by_cases h3 : a2.toInt < b2.toInt
      · simp [h3, Scalar.select, IntOp.ori, IntOp.andi, IntOp.cmpi, BitVec.slt]
      · simp [h3, Scalar.select, IntOp.ori, IntOp.andi, IntOp.cmpi, BitVec.slt]
    · simp [h1, h2, Scalar.select, IntOp.ori, IntOp.andi]

/-- `b` is beaten by `t`, or is `t`. -/
def Beaten (t b : EReal × BitVec 32) : Prop := b.1 < t.1 ∨ (t.1 = b.1 ∧ t.2.toInt < b.2.toInt) ∨ b = t

theorem reducer_left {t b : EReal × BitVec 32} (h : Beaten t b) : reducer_argmax_f32_i32 (F := Ideal) t b = t := by
  rw [reducer_spec]
  rcases h with h | ⟨h, h'⟩ | h
  · rw [if_pos h]
  · rw [if_neg (by rw [h]; exact lt_irrefl _), if_pos ⟨h, h'⟩]
  · subst h; split_ifs <;> rfl

theorem reducer_right {t b : EReal × BitVec 32} (h : Beaten t b) : reducer_argmax_f32_i32 (F := Ideal) b t = t := by
  rw [reducer_spec]
  rcases h with h | ⟨h, h'⟩ | h
  · rw [if_neg (not_lt.mpr (le_of_lt h)), if_neg fun e => absurd e.1 (ne_of_lt h)]
  · rw [if_neg (by rw [h]; exact lt_irrefl _), if_neg fun e => absurd e.2 (not_lt.mpr (le_of_lt h'))]
  · subst h; split_ifs <;> rfl

theorem reducer_one (a b : EReal × BitVec 32) :
    reducer_argmax_f32_i32 (F := Ideal) a b = a ∨ reducer_argmax_f32_i32 (F := Ideal) a b = b := by
  rw [reducer_spec]
  split_ifs <;> simp

/-- A fold of the reducer over a list of beaten pairs that holds `t` is `t`. -/
theorem foldl_reducer (t : EReal × BitVec 32) (l : List (EReal × BitVec 32)) (z : EReal × BitVec 32) (hz : Beaten t z)
    (hl : ∀ b ∈ l, Beaten t b) (ht : z = t ∨ t ∈ l) : l.foldl (reducer_argmax_f32_i32 (F := Ideal)) z = t := by
  induction l generalizing z with
  | nil => simpa using ht
  | cons a l ih =>
    have ha := hl a List.mem_cons_self
    have hl' : ∀ b ∈ l, Beaten t b := fun b hb => hl b (List.mem_cons_of_mem _ hb)
    rw [List.foldl_cons]
    have hb : Beaten t (reducer_argmax_f32_i32 (F := Ideal) z a) := by
      rcases reducer_one z a with e | e <;> rw [e] <;> assumption
    refine ih _ hb hl' ?_
    rcases ht with rfl | ht
    · exact Or.inl (reducer_left ha)
    · rcases List.mem_cons.mp ht with rfl | ht
      · exact Or.inl (reducer_right hz)
      · exact Or.inr ht

/-- The pair of row `n` that index `i` holds. -/
theorem argmax_row (v : S256x15.Idx → EReal) (n : Fin 256) (i : Fin 15) (h : IsFirst (fun j => v (ix2 n j)) i)
    (hpos : ⊥ < v (ix2 n i)) (hr : S256x15.ReducesTo [1] S256) (hu : 0 < S_.numel) :
    (Host.argReduce (F := Ideal) (φ := .f32) reducer_argmax_f32_i32 v (iotaInDim S256x15 32 1) (constant S_ .f32 0xFF800000#32)
      (constantI S_ 32 0#32) hr hu (ix1 n)).2 = BitVec.ofNat 32 i := by
  have hdrop : ∀ x : S256x15.Idx, hr.drop x = ix1 n ↔ x 0 = n := by
    intro x
    have hv : (hr.drop x 0 : ℕ) = x 0 := Shape.ReducesTo.drop_apply_val hr x 0
    constructor
    · intro e
      rw [e] at hv
      exact Fin.ext hv.symm
    · intro e
      funext a
      fin_cases a
      exact Fin.ext (hv.trans (congrArg Fin.val e))
  rw [Ideal.argReduce_eq_reduce2, Host.reduce2_eq_foldl_fiber]
  rw [foldl_reducer (v (ix2 n i), BitVec.ofNat 32 i)]
  · refine Or.inl ?_
    show Ideal.ofBits .f32 0xFF800000#32 < v (ix2 n i)
    rwa [ofBits_bot]
  · intro b hb
    unfold Host.argReduceFiber at hb
    obtain ⟨m, hm, rfl⟩ := List.mem_map.mp hb
    have hm' := (hdrop _).mp (by simpa using (List.mem_filter.mp hm).2)
    generalize S256x15.rowMajor.symm m = x at hm' ⊢
    have hx : x = ix2 n (x 1) := by
      rw [← hm']; exact eq_ix2 x
    have hio : iotaInDim S256x15 32 1 x = BitVec.ofNat 32 (x 1 : Fin 15) := rfl
    rw [hio, hx]
    generalize (x 1 : Fin 15) = q
    show Beaten _ (v (ix2 n q), BitVec.ofNat 32 q)
    rcases lt_trichotomy q i with hq | hq | hq
    · exact Or.inl (h.lt q hq)
    · subst hq; exact Or.inr (Or.inr rfl)
    · rcases lt_or_eq_of_le (h.le q) with h' | h'
      · exact Or.inl h'
      · refine Or.inr (Or.inl ⟨h'.symm, ?_⟩)
        have : (q : ℕ) < 15 := q.isLt
        have : (i : ℕ) < 15 := i.isLt
        rw [toInt_ofNat_small _ (by omega), toInt_ofNat_small _ (by omega)]
        exact_mod_cast hq
  · refine Or.inr ?_
    unfold Host.argReduceFiber
    refine List.mem_map.mpr ⟨S256x15.rowMajor (ix2 n i), List.mem_filter.mpr ⟨List.mem_finRange _, ?_⟩, ?_⟩
    · rw [Equiv.symm_apply_apply]; exact decide_eq_true ((hdrop _).mpr rfl)
    · rw [Equiv.symm_apply_apply]; rfl

end Cert.Proof.Ref
-- ==== Proof.RefRead.lean ====
/- The reference's terms, read at an index: the attention, its scores and the picks. -/
module

public import proofs.«01_k».proof.Proof.RefRun
public import proofs.«01_k».proof.Proof.RefOrder
public import proofs.«01_k».proof.Proof.Spec

@[expose] public section

set_option maxRecDepth 16384

noncomputable section

namespace Cert.Proof.Ref

open Cert.ReferenceIdeal Cert.ReferenceIdeal.Gen Cert.Proof.RefRun
open Idealize.ShloMosaic Idealize.ShloMosaic.TcCoe

/-! The operations at any operands. -/

theorem row_max (x : FVec Ideal S256x256x256 .f32) (n a : Fin 256) :
    Host.reduce FloatOps.maximumf x (constant S_ .f32 0xFF800000#32) reducesTo_S256x256x256_S256x256_d2 h_S_ (ix2 n a)
      = Finset.univ.fold max ⊥ fun k : Fin 256 => x (ix3 n a k) := by
  pointwise
  rw [ofBits_bot]

theorem row_sum (x : FVec Ideal S256x256x256 .f32) (n a : Fin 256) :
    Host.reduceAdd x (constant S_ .f32 0x00000000#32) reducesTo_S256x256x256_S256x256_d2 h_S_ (ix2 n a)
      = ∑ k : Fin 256, x (ix3 n a k) := by
  pointwise

theorem column_sum (x : FVec Ideal S256x256x256 .f32) (n a : Fin 256) :
    Host.reduceAdd x (constant S_ .f32 0x00000000#32) reducesTo_S256x256x256_S256x256_d1 h_S_ (ix2 n a)
      = ∑ k : Fin 256, x (ix3 n k a) := by
  pointwise

/-- A projection of the patches. -/
def project (x : FVec Ideal S256x256x48 .f32) (w : FVec Ideal S256x48 .f32) (b : FVec Ideal S256 .f32) :
    FVec Ideal S256x256x256 .f32 :=
  addf (Host.dotGeneral dot_S256x256x48_S48x256_S256x256x256_2_0_01_1_n_n none x
    (transpose S48x256 [1, 0] w transposes_S256x48_S48x256_1_0))
    (broadcastInDim S256x256x256 ![0, 1, 2] bcast_S1x1x256_S256x256x256_0_1_2
      (broadcastInDim S1x1x256 ![2] bcast_S256_S1x1x256_2 b))

theorem project_at (x : FVec Ideal S256x256x48 .f32) (w : FVec Ideal S256x48 .f32) (b : FVec Ideal S256 .f32)
    (n p d : Fin 256) :
    project x w b (ix3 n p d) = (∑ k : Fin 48, x (ix3 n p k) * w (ix2 d k)) + b (ix1 d) := by
  pointwise [project]

/-- The products over the square root of 48. -/
def attend (q k : FVec Ideal S256x256x256 .f32) : FVec Ideal S256x256x256 .f32 :=
  Host.divf (Host.dotGeneral dot_S256x256x256_S256x256x256_S256x256x256_2_1_1_2_0_0 none q k)
    (broadcastInDim S256x256x256 ![] bcast_S_S256x256x256 (Host.sqrt (constant S_ .f32 0x42400000#32)))

theorem attend_at (q k : FVec Ideal S256x256x256 .f32) (n a c : Fin 256) :
    attend q k (ix3 n a c)
      = (∑ d : Fin 256, q (ix3 n a d) * k (ix3 n d c)) * (((Real.sqrt 48)⁻¹ : ℝ) : EReal) := by
  pointwise [attend]
  rw [ofBits_48]
  have h : Ideal.sqrt ((48 : ℝ) : EReal) = ((Real.sqrt 48 : ℝ) : EReal) := by
    rw [Ideal.sqrt_coe, if_neg (by norm_num)]
  rw [h, Ideal.div_coe (by positivity), one_div]

/-- The exponentials of the distances to given rows' maxima. -/
def raisedOver (x : FVec Ideal S256x256x256 .f32) (y : FVec Ideal S256x256 .f32) : FVec Ideal S256x256x256 .f32 :=
  Host.exp (subf x (broadcastInDim S256x256x256 ![0, 1, 2] bcast_S256x256x1_S256x256x256_0_1_2
    (broadcastInDim S256x256x1 ![0, 1] bcast_S256x256_S256x256x1_0_1
      (maximumf (broadcastInDim S256x256 ![] bcast_S_S256x256 (constant S_ .f32 0xFF800000#32)) y))))

theorem raisedOver_at (x : FVec Ideal S256x256x256 .f32) (y : FVec Ideal S256x256 .f32) (n a c : Fin 256) :
    raisedOver x y (ix3 n a c) = Ideal.exp (x (ix3 n a c) - max (Ideal.ofBits .f32 0xFF800000#32) (y (ix2 n a))) := by
  pointwise [raisedOver]

/-- The exponentials of the distances to the rows' maxima. -/
def raised (x : FVec Ideal S256x256x256 .f32) : FVec Ideal S256x256x256 .f32 :=
  raisedOver x (Host.reduce FloatOps.maximumf x (constant S_ .f32 0xFF800000#32) reducesTo_S256x256x256_S256x256_d2 h_S_)

theorem raised_at (x : FVec Ideal S256x256x256 .f32) (n a c : Fin 256) :
    raised x (ix3 n a c) = raise (fun c : Fin 256 => (x (ix3 n a c) : EReal)) c := by
  have h := raisedOver_at x
    (Host.reduce FloatOps.maximumf x (constant S_ .f32 0xFF800000#32) reducesTo_S256x256x256_S256x256_d2 h_S_) n a c
  rw [row_max, ofBits_bot, max_eq_right bot_le] at h
  exact h

/-- The column sums of the softmax. -/
def shares (e : FVec Ideal S256x256x256 .f32) : FVec Ideal S256x256 .f32 :=
  Host.reduceAdd (Host.divf e (broadcastInDim S256x256x256 ![0, 1, 2] bcast_S256x256x1_S256x256x256_0_1_2
    (broadcastInDim S256x256x1 ![0, 1] bcast_S256x256_S256x256x1_0_1
      (Host.reduceAdd e (constant S_ .f32 0x00000000#32) reducesTo_S256x256x256_S256x256_d2 h_S_))))
    (constant S_ .f32 0x00000000#32) reducesTo_S256x256x256_S256x256_d1 h_S_

theorem shares_at (e : FVec Ideal S256x256x256 .f32) (n c : Fin 256) :
    shares e (ix2 n c) = ∑ a : Fin 256, Ideal.div (e (ix3 n a c)) (∑ k : Fin 256, e (ix3 n a k)) := by
  unfold shares
  rw [column_sum]
  refine Finset.sum_congr rfl fun a _ => ?_
  generalize hy : Host.reduceAdd e (constant S_ .f32 0x00000000#32) reducesTo_S256x256x256_S256x256_d2 h_S_ = y
  have hm : y (ix2 n a) = ∑ k : Fin 256, e (ix3 n a k) := by rw [← hy, row_sum]
  rw [← hm]
  pointwise

variable (V : Valuation τ sig (Elt Ideal))

/-- The nine arguments as the reference's memory holds them. -/
def args : Args where
  x n i j ch := (V (Proc.devRef .tc main_arg0) : S256x64x64x3.Idx → EReal) (ix4 n i j ch)
  wq d k := (V (Proc.devRef .tc main_arg1) : S256x48.Idx → EReal) (ix2 d k)
  bq d := (V (Proc.devRef .tc main_arg2) : S256.Idx → EReal) (ix1 d)
  wk d k := (V (Proc.devRef .tc main_arg3) : S256x48.Idx → EReal) (ix2 d k)
  bk d := (V (Proc.devRef .tc main_arg4) : S256.Idx → EReal) (ix1 d)
  w1 h f := (V (Proc.devRef .tc main_arg5) : S6x40.Idx → EReal) (ix2 h f)
  b1 h := (V (Proc.devRef .tc main_arg6) : S6.Idx → EReal) (ix1 h)
  w2 a h := (V (Proc.devRef .tc main_arg7) : S15x6.Idx → EReal) (ix2 a h)
  b2 a := (V (Proc.devRef .tc main_arg8) : S15.Idx → EReal) (ix1 a)

/-- The patches. -/
theorem v0_at (n p : Fin 256) (j : Fin 48) :
    (res_main_v0 V : S256x256x48.Idx → EReal) (ix3 n p j) = (args V).patch n p j := by
  pointwise [res_main_v0]
  refine congrArg (V (Proc.devRef .tc main_arg0) : S256x64x64x3.Idx → EReal) ?_
  congr 1 <;> apply Fin.ext <;> simp only [] <;> omega

theorem v14_eq : res_main_v14 V
    = attend (project (res_main_v0 V) (V (Proc.devRef .tc main_arg1)) (V (Proc.devRef .tc main_arg2)))
        (project (res_main_v0 V) (V (Proc.devRef .tc main_arg3)) (V (Proc.devRef .tc main_arg4))) := rfl
theorem v21_eq : res_main_v21 V = raised (res_main_v14 V) := rfl
theorem v26_eq : res_main_v26 V = shares (res_main_v21 V) := rfl

theorem query_at (n p d : Fin 256) :
    project (res_main_v0 V) (V (Proc.devRef .tc main_arg1)) (V (Proc.devRef .tc main_arg2)) (ix3 n p d)
      = (args V).query n p d := by
  rw [project_at]
  simp only [v0_at]
  rfl
theorem key_at (n p d : Fin 256) :
    project (res_main_v0 V) (V (Proc.devRef .tc main_arg3)) (V (Proc.devRef .tc main_arg4)) (ix3 n p d)
      = (args V).key n p d := by
  rw [project_at]
  simp only [v0_at]
  rfl

/-- The scaled products. -/
theorem v14_at (n a c : Fin 256) :
    (res_main_v14 V : S256x256x256.Idx → EReal) (ix3 n a c) = (args V).product n a c := by
  rw [v14_eq, attend_at]
  simp only [query_at, key_at]
  rfl

theorem v21_at (n a c : Fin 256) :
    (res_main_v21 V : S256x256x256.Idx → EReal) (ix3 n a c) = raise ((args V).product n a) c := by
  rw [v21_eq, raised_at]
  exact congrArg (fun v => raise v c) (funext fun c => v14_at V n a c)

/-- The scores. -/
theorem v26_at (n c : Fin 256) :
    (res_main_v26 V : S256x256.Idx → EReal) (ix2 n c) = (args V).score n c := by
  rw [v26_eq, shares_at]
  simp only [v21_at]
  rfl

/-- The picks, where the scores are nonnegative. -/
theorem indices_at (n : Fin 256) (hs : ∀ j, 0 ≤ (args V).score n j) (k : Fin 8) :
    (res_main_indices V : S256x8.Idx → BitVec 32) (ix2 n k) = BitVec.ofNat 32 (best ((args V).score n) k) := by
  unfold res_main_indices
  refine (topK_row (res_main_v26 V) n k (fun j => (hs j).trans (le_of_eq (v26_at V n j).symm)) _).trans ?_
  exact congrArg (fun s : Fin 256 → EReal => BitVec.ofNat 32 (best s k)) (funext fun j => v26_at V n j)

end Cert.Proof.Ref
-- ==== Proof.RefFeats.lean ====
/- The reference's features, logits and results, read at an index. -/
module

public import proofs.«01_k».proof.Proof.RefRead

@[expose] public section

set_option maxRecDepth 16384

noncomputable section

namespace Cert.Proof.Ref

open Cert.ReferenceIdeal Cert.ReferenceIdeal.Gen Cert.Proof.RefRun
open Idealize.ShloMosaic Idealize.ShloMosaic.TcCoe

/-! The operations at any operands. -/

/-- A splat over the picks. -/
abbrev splat8 (v : BitVec 32) : IVec S256x8 32 := broadcastInDim S256x8 ![] bcast_S_S256x8 (constantI S_ 32 v)

/-- The picks' rows: the floor of the pick over 64. -/
def rowOf (i : IVec S256x8 32) : IVec S256x8 32 :=
  select (andi (cmpi .ne (signi i) (broadcastInDim S256x8 ![] bcast_S_S256x8 (signi (constantI S_ 32 64#32))))
      (cmpi .ne (Host.remsi i (splat8 64#32)) (splat8 0#32)))
    (subi (Host.divsi i (splat8 64#32)) (splat8 1#32)) (Host.divsi i (splat8 64#32))

theorem rowOf_at (i : IVec S256x8 32) (n : Fin 256) (r : Fin 8) (b : Fin 256) (h : i (ix2 n r) = BitVec.ofNat 32 b) :
    rowOf i (ix2 n r) = BitVec.ofNat 32 (b / 64) := by
  pointwise [rowOf]
  rw [h]
  clear h
  revert b
  decide +kernel

/-- The divisor, as the remainder's guard against zero leaves it. -/
abbrev divisor : IVec S_ 32 :=
  select (cmpi .eq (constantI S_ 32 64#32) (constantI S_ 32 0#32)) (constantI S_ 32 1#32) (constantI S_ 32 64#32)
/-- The machine's remainder. -/
abbrev rest (i : IVec S256x8 32) : IVec S256x8 32 := Host.remsi i (broadcastInDim S256x8 ![] bcast_S_S256x8 divisor)

/-- The picks' columns: the remainder of the pick over 64. -/
def colOf (i : IVec S256x8 32) : IVec S256x8 32 :=
  select (andi (cmpi .ne (cmpi .slt (rest i) (splat8 0#32))
        (broadcastInDim S256x8 ![] bcast_S_S256x8 (cmpi .slt divisor (constantI S_ 32 0#32))))
      (cmpi .ne (rest i) (splat8 0#32)))
    (addi (rest i) (broadcastInDim S256x8 ![] bcast_S_S256x8 divisor)) (rest i)

theorem colOf_at (i : IVec S256x8 32) (n : Fin 256) (r : Fin 8) (b : Fin 256) (h : i (ix2 n r) = BitVec.ofNat 32 b) :
    colOf i (ix2 n r) = BitVec.ofNat 32 (b % 64) := by
  pointwise [colOf]
  rw [h]
  clear h
  revert b
  decide +kernel

/-- A patch's centre from its row or column. -/
def centre (i : IVec S256x8 32) : FVec Ideal S256x8 .f32 :=
  Host.divf (addf (sitofp .f32 i) (broadcastInDim S256x8 ![] bcast_S_S256x8 (constant S_ .f32 0x40000000#32)))
    (broadcastInDim S256x8 ![] bcast_S_S256x8 (constant S_ .f32 0x42800000#32))

theorem centre_at (i : IVec S256x8 32) (n : Fin 256) (r : Fin 8) (m : ℕ) (hm : m < 256) (h : i (ix2 n r) = BitVec.ofNat 32 m) :
    centre i (ix2 n r) = (((m : ℝ) + 2) / 64 : ℝ) := by
  pointwise [centre]
  rw [h, ofBits_two, ofBits_64, Ideal.div_coe (by norm_num), one_div]
  show ((((BitVec.ofNat 32 m).toInt : ℝ) : EReal) + _) * _ = _
  rw [toInt_ofNat_small m (by omega), ← EReal.coe_add, ← EReal.coe_mul, div_eq_mul_inv]
  norm_cast

/-- The picks with negative ones wrapped, as start indices. -/
def wrapped (i : IVec S256x8 32) : IVec S256x8x1 32 :=
  select (cmpi .slt (broadcastInDim S256x8x1 ![0, 1] bcast_S256x8_S256x8x1_0_1 i)
      (broadcastInDim S256x8x1 ![] bcast_S_S256x8x1 (constantI S_ 32 0#32)))
    (addi (broadcastInDim S256x8x1 ![0, 1] bcast_S256x8_S256x8x1_0_1 i)
      (broadcastInDim S256x8x1 ![] bcast_S_S256x8x1 (constantI S_ 32 256#32)))
    (broadcastInDim S256x8x1 ![0, 1] bcast_S256x8_S256x8x1_0_1 i)

theorem wrapped_at (i : IVec S256x8 32) (n : Fin 256) (r : Fin 8) (b : Fin 256) (h : i (ix2 n r) = BitVec.ofNat 32 b) :
    wrapped i (ix3 n r 0) = BitVec.ofNat 32 b := by
  pointwise [wrapped]
  rw [h]
  clear h
  revert b
  decide +kernel

/-- Whether a start index is in range. -/
def inRange (i : IVec S256x8x1 32) : IVec S256x8 1 :=
  Host.reduce IntOp.andi (andi (cmpi .sge i (broadcastInDim S256x8x1 ![] bcast_S_S256x8x1 (constantI S_ 32 0#32)))
      (cmpi .sle i (broadcastInDim S256x8x1 ![0, 1, 2] bcast_S1x1x1_S256x8x1_0_1_2
        (broadcastInDim S1x1x1 ![2] bcast_S1_S1x1x1_2 (constantI S1 32 255#32)))))
    (constantI S_ 1 1#1) reducesTo_S256x8x1_S256x8_d2 h_S_

theorem inRange_at (i : IVec S256x8x1 32) (n : Fin 256) (r : Fin 8) (b : Fin 256) (h : i (ix3 n r 0) = BitVec.ofNat 32 b) :
    inRange i (ix2 n r) = 1#1 := by
  pointwise [inRange]
  rw [Finset.univ_unique, Finset.fold_singleton]
  show IntOp.andi (IntOp.andi (IntOp.cmpi .sge (i (ix3 n r 0)) 0#32) (IntOp.cmpi .sle (i (ix3 n r 0)) 255#32)) 1#1 = 1#1
  rw [h]
  clear h
  revert b
  decide +kernel

/-- The gather reads the row that the start index names. -/
theorem gather_at (x : FVec Ideal S256x256x48 .f32) (i : IVec S256x8x1 32) (n : Fin 256) (r : Fin 8) (b : Fin 256)
    (h : i (ix3 n r 0) = BitVec.ofNat 32 b) (j : Fin 48) :
    Host.gather gather_S256x256x48_S256x8x1_S256x8x48_2_1_0_0_1_2_1148 x i (ix3 n r j) = x (ix3 n b j) := by
  unfold Host.gather
  congr 1
  funext a
  refine Fin.ext ?_
  let d := gather_S256x256x48_S256x8x1_S256x8x48_2_1_0_0_1_2_1148
  let y : S256x8x48.Idx := ix3 n r j
  show d.start y i a + d.batchCoord y a + d.offCoord y a = _
  fin_cases a
  · exact (Nat.zero_add _).trans rfl
  · have hs : d.siIdx y ⟨0, by decide⟩ = ix3 n r 0 := by
      funext c
      fin_cases c <;> rfl
    have e : d.start y i (1 : Fin 3) = min (i (d.siIdx y ⟨0, by decide⟩)).toInt.toNat 255 := rfl
    show d.start y i (1 : Fin 3) + 0 + 0 = b.val
    rw [e, hs, h, toInt_ofNat_small b (by omega), Int.toNat_natCast]
    omega
  · exact (Nat.zero_add _).trans rfl

/-- The picked patches, NaN where a start index is out of range. -/
def taken (x : FVec Ideal S256x256x48 .f32) (i : IVec S256x8x1 32) : FVec Ideal S256x8x48 .f32 :=
  select (broadcastInDim S256x8x48 ![0, 1] bcast_S256x8_S256x8x48_0_1 (inRange i))
    (Host.gather gather_S256x256x48_S256x8x1_S256x8x48_2_1_0_0_1_2_1148 x i)
    (broadcastInDim S256x8x48 ![] bcast_S_S256x8x48 (constant S_ .f32 0x7FC00000#32))

theorem taken_at (x : FVec Ideal S256x256x48 .f32) (i : IVec S256x8x1 32) (n : Fin 256) (r : Fin 8) (b : Fin 256)
    (h : i (ix3 n r 0) = BitVec.ofNat 32 b) (j : Fin 48) : taken x i (ix3 n r j) = x (ix3 n b j) := by
  unfold taken
  generalize hq : inRange i = q
  generalize hg : Host.gather gather_S256x256x48_S256x8x1_S256x8x48_2_1_0_0_1_2_1148 x i = g
  have h1 : q (ix2 n r) = 1#1 := by rw [← hq, inRange_at i n r b h]
  have h2 : g (ix3 n r j) = x (ix3 n b j) := by rw [← hg, gather_at x i n r b h j]
  pointwise
  rw [h1, h2]
  rfl

/-- The channel means over 255. -/
def colours (v : FVec Ideal S256x8x48 .f32) : FVec Ideal S256x8x3 .f32 :=
  Host.divf (Host.divf (Host.reduceAdd (shapeCast S256x8x16x3 v shapeCasts_S256x8x48_S256x8x16x3) (constant S_ .f32 0x00000000#32)
      reducesTo_S256x8x16x3_S256x8x3_d2 h_S_) (broadcastInDim S256x8x3 ![] bcast_S_S256x8x3 (constant S_ .f32 0x41800000#32)))
    (broadcastInDim S256x8x3 ![] bcast_S_S256x8x3 (constant S_ .f32 0x437F0000#32))

theorem colours_at (v : FVec Ideal S256x8x48 .f32) (n : Fin 256) (r : Fin 8) (ch : Fin 3) :
    colours v (ix3 n r ch) = Ideal.div (Ideal.div (∑ k : Fin 16, v (ix3 n r ⟨3 * k + ch, by omega⟩)) ((16 : ℝ) : EReal))
      ((255 : ℝ) : EReal) := by
  pointwise [colours]
  rw [ofBits_16, ofBits_255]
  refine congrArg (fun a => Ideal.div (Ideal.div a _) _) (Finset.sum_congr rfl fun k _ => congrArg v ?_)
  congr 1
  apply Fin.ext
  simp only []
  omega

/-- The features from the picks' rows, columns and colours. -/
def joined (a b : FVec Ideal S256x8 .f32) (v : FVec Ideal S256x8x3 .f32) : FVec Ideal S256x40 .f32 :=
  shapeCast S256x40 (concatenate S256x8x5 2
    [⟨S256x8x1, broadcastInDim S256x8x1 ![0, 1] bcast_S256x8_S256x8x1_0_1 a⟩,
     ⟨S256x8x1, broadcastInDim S256x8x1 ![0, 1] bcast_S256x8_S256x8x1_0_1 b⟩, ⟨S256x8x3, v⟩]
    concatenates_S256x8x1_S256x8x1_S256x8x3_S256x8x5_d2) shapeCasts_S256x8x5_S256x40

theorem joined_at (a b : FVec Ideal S256x8 .f32) (v : FVec Ideal S256x8x3 .f32) (n : Fin 256) (f : Fin 40) :
    joined a b v (ix2 n f) = if f.val % 5 = 0 then a (ix2 n ⟨f / 5, by omega⟩)
      else if f.val % 5 = 1 then b (ix2 n ⟨f / 5, by omega⟩)
      else v (ix3 n ⟨f / 5, by omega⟩ ⟨(f % 5 - 2) % 3, Nat.mod_lt _ (by decide)⟩) := by
  pointwise [joined]
  have hf := Nat.mod_lt f.val (show 5 > 0 by decide)
  by_cases h0 : f.val % 5 = 0
  · rw [dif_pos (by omega), if_pos h0]
  by_cases h1 : f.val % 5 = 1
  · rw [dif_neg (by omega), dif_pos (by omega), if_neg h0, if_pos h1]
  · rw [dif_neg (by omega), dif_neg (by omega), if_neg h0, if_neg h1]
    refine congrArg (fun c => v (ix3 n _ c)) (Fin.ext ?_)
    show f.val % 5 - 1 - 1 = (f.val % 5 - 2) % 3
    rw [Nat.mod_eq_of_lt (show f.val % 5 - 2 < 3 by omega), Nat.sub_sub]

/-- The two dense layers. -/
def layers (x : FVec Ideal S256x40 .f32) (w1 : FVec Ideal S6x40 .f32) (b1 : FVec Ideal S6 .f32) (w2 : FVec Ideal S15x6 .f32)
    (b2 : FVec Ideal S15 .f32) : FVec Ideal S256x15 .f32 :=
  addf (Host.dotGeneral dot_S256x6_S6x15_S256x15_1_0_0_1_n_n none
      (addf (Host.dotGeneral dot_S256x40_S40x6_S256x6_1_0_0_1_n_n none x (transpose S40x6 [1, 0] w1 transposes_S6x40_S40x6_1_0))
        (broadcastInDim S256x6 ![0, 1] bcast_S1x6_S256x6_0_1 (broadcastInDim S1x6 ![1] bcast_S6_S1x6_1 b1)))
      (transpose S6x15 [1, 0] w2 transposes_S15x6_S6x15_1_0))
    (broadcastInDim S256x15 ![0, 1] bcast_S1x15_S256x15_0_1 (broadcastInDim S1x15 ![1] bcast_S15_S1x15_1 b2))

theorem layers_at (x : FVec Ideal S256x40 .f32) (w1 : FVec Ideal S6x40 .f32) (b1 : FVec Ideal S6 .f32)
    (w2 : FVec Ideal S15x6 .f32) (b2 : FVec Ideal S15 .f32) (n : Fin 256) (a : Fin 15) :
    layers x w1 b1 w2 b2 (ix2 n a)
      = (∑ h : Fin 6, ((∑ f : Fin 40, x (ix2 n f) * w1 (ix2 h f)) + b1 (ix1 h)) * w2 (ix2 a h)) + b2 (ix1 a) := by
  pointwise [layers]

/-- The exponentials of the distances to given maxima. -/
def liftedOver (x : FVec Ideal S256x15 .f32) (y : FVec Ideal S256 .f32) : FVec Ideal S256x15 .f32 :=
  Host.exp (subf x (broadcastInDim S256x15 ![0, 1] bcast_S256x1_S256x15_0_1 (broadcastInDim S256x1 ![0] bcast_S256_S256x1_0
    (maximumf (broadcastInDim S256 ![] bcast_S_S256 (constant S_ .f32 0xFF800000#32)) y))))

theorem liftedOver_at (x : FVec Ideal S256x15 .f32) (y : FVec Ideal S256 .f32) (n : Fin 256) (a : Fin 15) :
    liftedOver x y (ix2 n a) = Ideal.exp (x (ix2 n a) - max (Ideal.ofBits .f32 0xFF800000#32) (y (ix1 n))) := by
  pointwise [liftedOver]

theorem logit_max (x : FVec Ideal S256x15 .f32) (n : Fin 256) :
    Host.reduce FloatOps.maximumf x (constant S_ .f32 0xFF800000#32) reducesTo_S256x15_S256_d1 h_S_ (ix1 n)
      = Finset.univ.fold max ⊥ fun k : Fin 15 => x (ix2 n k) := by
  pointwise
  rw [ofBits_bot]

theorem logit_sum (x : FVec Ideal S256x15 .f32) (n : Fin 256) :
    Host.reduceAdd x (constant S_ .f32 0x00000000#32) reducesTo_S256x15_S256_d1 h_S_ (ix1 n) = ∑ k : Fin 15, x (ix2 n k) := by
  pointwise

/-- The exponentials of the logits' distances to their maxima. -/
def lifted (x : FVec Ideal S256x15 .f32) : FVec Ideal S256x15 .f32 :=
  liftedOver x (Host.reduce FloatOps.maximumf x (constant S_ .f32 0xFF800000#32) reducesTo_S256x15_S256_d1 h_S_)

theorem lifted_at (x : FVec Ideal S256x15 .f32) (n : Fin 256) (a : Fin 15) :
    lifted x (ix2 n a) = raise (fun a : Fin 15 => (x (ix2 n a) : EReal)) a := by
  have h := liftedOver_at x
    (Host.reduce FloatOps.maximumf x (constant S_ .f32 0xFF800000#32) reducesTo_S256x15_S256_d1 h_S_) n a
  rw [logit_max, ofBits_bot, max_eq_right bot_le] at h
  exact h

/-- A row over given sums. -/
def overRow (e : FVec Ideal S256x15 .f32) (y : FVec Ideal S256 .f32) : FVec Ideal S256x15 .f32 :=
  Host.divf e (broadcastInDim S256x15 ![0, 1] bcast_S256x1_S256x15_0_1 (broadcastInDim S256x1 ![0] bcast_S256_S256x1_0 y))

theorem overRow_at (e : FVec Ideal S256x15 .f32) (y : FVec Ideal S256 .f32) (n : Fin 256) (a : Fin 15) :
    overRow e y (ix2 n a) = Ideal.div (e (ix2 n a)) (y (ix1 n)) := by
  pointwise [overRow]

variable (V : Valuation τ sig (Elt Ideal))

theorem v60_eq : res_main_v60 V
    = layers (joined (centre (rowOf (res_main_indices V))) (centre (colOf (res_main_indices V)))
        (colours (taken (res_main_v0 V) (wrapped (res_main_indices V)))))
      (V (Proc.devRef .tc main_arg5)) (V (Proc.devRef .tc main_arg6)) (V (Proc.devRef .tc main_arg7))
      (V (Proc.devRef .tc main_arg8)) := rfl
theorem v67_eq : res_main_v67 V = lifted (res_main_v60 V) := rfl
theorem v71_eq : res_main_v71 V = overRow (res_main_v67 V)
    (Host.reduceAdd (res_main_v67 V) (constant S_ .f32 0x00000000#32) reducesTo_S256x15_S256_d1 h_S_) := rfl

/-- The features, where the scores are nonnegative. -/
theorem feature_at (n : Fin 256) (hs : ∀ j, 0 ≤ (args V).score n j) (f : Fin 40) :
    joined (centre (rowOf (res_main_indices V))) (centre (colOf (res_main_indices V)))
        (colours (taken (res_main_v0 V) (wrapped (res_main_indices V)))) (ix2 n f)
      = feature ((args V).score n) ((args V).mean n) f := by
  rw [joined_at]
  have h := indices_at V n hs ⟨f / 5, by omega⟩
  unfold feature piece
  split
  · exact centre_at _ n _ _ (by omega) (rowOf_at _ n _ _ h)
  split
  · exact centre_at _ n _ _ (by omega) (colOf_at _ n _ _ h)
  · rw [colours_at]
    unfold Args.mean
    refine congrArg (fun a => Ideal.div (Ideal.div a _) _) (Finset.sum_congr rfl fun k _ => ?_)
    exact (taken_at _ _ n _ _ (wrapped_at _ n _ _ h) _).trans (v0_at V n _ _)

/-- The logits, where the scores are nonnegative. -/
theorem v60_at (n : Fin 256) (hs : ∀ j, 0 ≤ (args V).score n j) (a : Fin 15) :
    (res_main_v60 V : S256x15.Idx → EReal) (ix2 n a) = (args V).logit n a := by
  rw [v60_eq, layers_at]
  simp only [feature_at V n hs]
  rfl

/-- The actions, where the scores are nonnegative. -/
theorem v71_at (n : Fin 256) (hs : ∀ j, 0 ≤ (args V).score n j) (a : Fin 15) :
    (res_main_v71 V : S256x15.Idx → EReal) (ix2 n a) = (args V).action n a := by
  have h67 (a : Fin 15) : (res_main_v67 V : S256x15.Idx → EReal) (ix2 n a) = raise ((args V).logit n) a := by
    rw [v67_eq, lifted_at]
    exact congrArg (fun v => raise v a) (funext fun a => v60_at V n hs a)
  rw [v71_eq, overRow_at, logit_sum]
  simp only [h67]
  rfl

theorem v72_eq : res_main_v72 V = fun j => (Host.argReduce reducer_argmax_f32_i32 (res_main_v71 V) (iotaInDim S256x15 32 1)
    (constant S_ .f32 0xFF800000#32) (constantI S_ 32 0#32) reducesTo_S256x15_S256_d1 h_S_ j).2 := rfl

/-- The selected action, where the scores are nonnegative and `i` is the first greatest action. -/
theorem v72_at (n : Fin 256) (hs : ∀ j, 0 ≤ (args V).score n j) (i : Fin 15) (h : IsFirst ((args V).action n) i)
    (hpos : ⊥ < (args V).action n i) : (res_main_v72 V : S256.Idx → BitVec 32) (ix1 n) = BitVec.ofNat 32 i := by
  have e : (fun j => (res_main_v71 V : S256x15.Idx → EReal) (ix2 n j)) = (args V).action n := funext fun j => v71_at V n hs j
  rw [v72_eq]
  exact argmax_row (res_main_v71 V) n i (by rw [e]; exact h) (by rw [v71_at V n hs]; exact hpos) _ _

end Cert.Proof.Ref
-- ==== Proof.Reals.lean ====
/- What finite arguments give: real logits, nonnegative scores, and an order the softmax keeps. -/
module

public import proofs.«01_k».proof.Proof.Spec
public import Mathlib.Data.EReal.Operations
public import Mathlib.Algebra.BigOperators.Fin

@[expose] public section

noncomputable section

namespace Cert.Proof

open Idealize.ShloMosaic

/-- An extended real that is a real number. -/
def IsReal (x : EReal) : Prop := ∃ r : ℝ, x = (r : EReal)

theorem IsReal.coe (r : ℝ) : IsReal (r : EReal) := ⟨r, rfl⟩
theorem IsReal.add {x y : EReal} : IsReal x → IsReal y → IsReal (x + y) := by
  rintro ⟨a, rfl⟩ ⟨b, rfl⟩
  exact ⟨a + b, (EReal.coe_add a b).symm⟩
theorem IsReal.mul {x y : EReal} : IsReal x → IsReal y → IsReal (x * y) := by
  rintro ⟨a, rfl⟩ ⟨b, rfl⟩
  exact ⟨a * b, (EReal.coe_mul a b).symm⟩
theorem IsReal.over {x : EReal} {y : ℝ} (hy : y ≠ 0) (hx : IsReal x) : IsReal (Ideal.div x (y : EReal)) := by
  rw [Ideal.div_coe hy]
  exact hx.mul (IsReal.coe _)
/-- A finite sum of reals, as an extended real. -/
theorem coe_total {ι : Type} (s : Finset ι) (r : ι → ℝ) : ((∑ i ∈ s, r i : ℝ) : EReal) = ∑ i ∈ s, (r i : EReal) := by
  classical
  induction s using Finset.induction_on with
  | empty => simp
  | insert i s hi h => rw [Finset.sum_insert hi, Finset.sum_insert hi, EReal.coe_add, h]
theorem IsReal.sum {ι : Type} (s : Finset ι) {f : ι → EReal} (h : ∀ i, IsReal (f i)) : IsReal (∑ i ∈ s, f i) := by
  choose r hr using h
  exact ⟨∑ i ∈ s, r i, by rw [coe_total]; exact Finset.sum_congr rfl fun i _ => hr i⟩

/-- The softmax of a row of reals: the exponentials times one positive factor. -/
theorem soften_real {n : ℕ} [NeZero n] (v : Fin n → EReal) (h : ∀ a, IsReal (v a)) :
    ∃ (r : Fin n → ℝ) (c : ℝ), 0 < c ∧ (∀ a, v a = (r a : EReal)) ∧ ∀ a, soften v a = ((Real.exp (r a) * c : ℝ) : EReal) := by
  choose r hr using h
  obtain ⟨i, hi⟩ := exists_isFirst v
  have hraise (a : Fin n) : raise v a = ((Real.exp (r a - r i) : ℝ) : EReal) := by
    unfold raise
    rw [hi.fold_max, hr a, hr i, ← EReal.coe_sub, Ideal.exp_coe]
  have hpos : 0 < ∑ a, Real.exp (r a - r i) :=
    Finset.sum_pos (fun a _ => Real.exp_pos _) ⟨i, Finset.mem_univ i⟩
  refine ⟨r, Real.exp (-r i) * (1 / ∑ a, Real.exp (r a - r i)), mul_pos (Real.exp_pos _) (one_div_pos.mpr hpos), hr,
    fun a => ?_⟩
  unfold soften
  simp only [hraise]
  rw [← coe_total, Ideal.div_coe hpos.ne', ← EReal.coe_mul, ← mul_assoc, ← Real.exp_add, ← sub_eq_add_neg]

/-- The softmax of a row of reals is nonnegative. -/
theorem soften_nonneg {n : ℕ} [NeZero n] (v : Fin n → EReal) (h : ∀ a, IsReal (v a)) (a : Fin n) : 0 ≤ soften v a := by
  obtain ⟨r, c, hc, -, hs⟩ := soften_real v h
  rw [hs a]
  exact EReal.coe_nonneg.mpr (mul_pos (Real.exp_pos _) hc).le

/-- The softmax of a row of reals keeps the first maximum. -/
theorem soften_first {n : ℕ} [NeZero n] (v : Fin n → EReal) (h : ∀ a, IsReal (v a)) {i : Fin n} (hi : IsFirst v i) :
    IsFirst (soften v) i ∧ ⊥ < soften v i := by
  obtain ⟨r, c, hc, hr, hs⟩ := soften_real v h
  refine ⟨⟨fun j => ?_, fun j hj => ?_⟩, ?_⟩
  · have e := hi.le j
    rw [hr, hr, EReal.coe_le_coe_iff] at e
    rw [hs, hs, EReal.coe_le_coe_iff]
    exact mul_le_mul_of_nonneg_right (Real.exp_le_exp.mpr e) hc.le
  · have e := hi.lt j hj
    rw [hr, hr, EReal.coe_lt_coe_iff] at e
    rw [hs, hs, EReal.coe_lt_coe_iff]
    exact mul_lt_mul_of_pos_right (Real.exp_lt_exp.mpr e) hc
  · rw [hs]
    exact EReal.bot_lt_coe _

/-- Every entry of the nine arguments is a real number. -/
structure Args.Finite (A : Args) : Prop where
  x : ∀ n i j c, IsReal (A.x n i j c)
  wq : ∀ d j, IsReal (A.wq d j)
  bq : ∀ d, IsReal (A.bq d)
  wk : ∀ d j, IsReal (A.wk d j)
  bk : ∀ d, IsReal (A.bk d)
  w1 : ∀ h f, IsReal (A.w1 h f)
  b1 : ∀ h, IsReal (A.b1 h)
  w2 : ∀ a h, IsReal (A.w2 a h)
  b2 : ∀ a, IsReal (A.b2 a)

namespace Args.Finite

variable {A : Args} (F : A.Finite) (n : Fin 256)
include F

theorem patch (p : Fin 256) (j : Fin 48) : IsReal (A.patch n p j) := F.x _ _ _ _
theorem product (a c : Fin 256) : IsReal (A.product n a c) :=
  (IsReal.sum _ fun d => ((IsReal.sum _ fun j => (F.patch n a j).mul (F.wq d j)).add (F.bq d)).mul
    ((IsReal.sum _ fun j => (F.patch n d j).mul (F.wk c j)).add (F.bk c))).mul (IsReal.coe _)
/-- The scores are nonnegative. -/
theorem score (c : Fin 256) : 0 ≤ A.score n c :=
  Finset.sum_nonneg fun a _ => soften_nonneg _ (F.product n a) c
theorem mean (ch : Fin 3) (p : Fin 256) : IsReal (A.mean n ch p) :=
  ((IsReal.sum _ fun _ => F.patch n p _).over (by norm_num)).over (by norm_num)
theorem feature (f : Fin 40) : IsReal (feature (A.score n) (A.mean n) f) := by
  unfold Cert.Proof.feature piece
  split
  · exact IsReal.coe _
  split
  · exact IsReal.coe _
  · exact F.mean n _ _
/-- The logits are real. -/
theorem logit (a : Fin 15) : IsReal (A.logit n a) :=
  (IsReal.sum _ fun h => ((IsReal.sum _ fun f => (F.feature n f).mul (F.w1 h f)).add (F.b1 h)).mul (F.w2 a h)).add (F.b2 a)
/-- The first greatest logit is the first greatest action. -/
theorem chosen : IsFirst (A.action n) (A.chosen n) ∧ ⊥ < A.action n (A.chosen n) :=
  soften_first _ (F.logit n) (isFirst_first _)

end Args.Finite

end Cert.Proof
-- ==== Proof.Finite.lean ====
/- The precondition: every entry of the nine arguments is a real number. -/
module

public import proofs.«01_k».proof.Defs
public import proofs.«01_k».proof.Proof.Consts
public import proofs.«01_k».proof.Proof.Reals
public import proofs.«01_k».proof.Proof.Chain
public import Idealize.ShloMosaic.Lib.Pointwise

@[expose] public section

set_option maxRecDepth 16384

noncomputable section

namespace Cert.Proof

open Idealize.ShloMosaic Idealize.ShloMosaic.TcCoe

theorem ofBits_top : Ideal.ofBits .f32 0x7F800000#32 = ⊤ := by simp [Ideal.ofBits, Ideal.ieee]

/-- An extended real of absolute value below `⊤` is a real number. -/
theorem real_of_abs (x : EReal) (h : Ideal.cmp .olt (max x (-x)) ⊤ = 1#1) : IsReal x := by
  induction x with
  | bot => simp [Ideal.cmp] at h
  | top => simp [Ideal.cmp] at h
  | coe r => exact ⟨r, rfl⟩

/-- An array that passes the precondition's comparison holds real numbers. -/
theorem real_of_finite {S : Shape} (x : FVec Ideal S .f32) (hb : Cert.Pre_finite.S_.BroadcastsInDim S ![])
    (h : cmpf .olt (Host.absf x) (broadcastInDim S ![] hb (constant Cert.Pre_finite.S_ .f32 0x7F800000#32)) = fun _ => 1#1)
    (i : S.Idx) : IsReal (x i) := by
  refine real_of_abs _ ?_
  have e := congrFun h i
  rw [← ofBits_top]
  exact e

/-- Where the precondition holds, the arguments are finite. -/
theorem finite_args [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) : (Chain.args m c).Finite := by
  obtain ⟨h0, h1, h2, h3, h4, h5, h6, h7, h8⟩ := h c
  exact
    { x := fun _ _ _ _ => real_of_finite _ _ h0 _
      wq := fun _ _ => real_of_finite _ _ h1 _
      bq := fun _ => real_of_finite _ _ h2 _
      wk := fun _ _ => real_of_finite _ _ h3 _
      bk := fun _ => real_of_finite _ _ h4 _
      w1 := fun _ _ => real_of_finite _ _ h5 _
      b1 := fun _ => real_of_finite _ _ h6 _
      w2 := fun _ _ => real_of_finite _ _ h7 _
      b2 := fun _ => real_of_finite _ _ h8 _ }

end Cert.Proof
-- ==== Proof.Algebraic.lean ====
/- The kernel and the reference compute the same values. -/
module

public import proofs.«01_k».proof.Defs
public import proofs.«01_k».proof.Proof.Gen.Pre_finite
public import proofs.«01_k».proof.Proof.KernelRun
public import proofs.«01_k».proof.Proof.RefRun
public import proofs.«01_k».proof.Proof.Final
public import proofs.«01_k».proof.Proof.RefFeats
public import proofs.«01_k».proof.Proof.Finite
public import Idealize.ShloMosaic.Lib.Claim

@[expose] public section

set_option maxRecDepth 16384

noncomputable section

namespace Cert.Proof

open Idealize.ShloMosaic Idealize.ShloMosaic.TcCoe Idealize.SL.Sem

/-- Rows that agree entry by entry are equal. -/
theorem rows_ext {α : Type} {a : ℕ} (f g : (⟨1, ![a]⟩ : Shape).Idx → α) (h : ∀ n : Fin a, f (ix1 n) = g (ix1 n)) : f = g := by
  funext j
  rw [eq_ix1 j]
  exact h _

/-- Tables that agree entry by entry are equal. -/
theorem table_ext {α : Type} {a b : ℕ} (f g : (⟨2, ![a, b]⟩ : Shape).Idx → α)
    (h : ∀ (n : Fin a) (k : Fin b), f (ix2 n k) = g (ix2 n k)) : f = g := by
  funext j
  rw [eq_ix2 j]
  exact h _ _

section

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (V : Valuation Cert.ReferenceIdeal.τ Cert.ReferenceIdeal.sig (Elt Ideal))

/-- On equal finite arguments the two programs select the same action. -/
theorem same_chosen (F : (Chain.args m c).Finite) (e : Ref.args V = Chain.args m c) :
    RefRun.res_main_v72 V = Cert.KernelIdeal.Gen.W7 m ρ c (Proc.devRef .tc Cert.KernelIdeal.main_v15) := by
  refine rows_ext (a := 256) _ _ fun n => ?_
  have h := F.chosen n
  exact (Ref.v72_at V n (fun p => by rw [e]; exact F.score n p) _ (by rw [e]; exact h.1) (by rw [e]; exact h.2)).trans
    (Chain.result_chosen m ρ c n).symm

/-- On equal finite arguments the two programs' actions are the same. -/
theorem same_actions (F : (Chain.args m c).Finite) (e : Ref.args V = Chain.args m c) :
    RefRun.res_main_v71 V = Cert.KernelIdeal.Gen.W7 m ρ c (Proc.devRef .tc Cert.KernelIdeal.main_v14_0) := by
  refine table_ext (a := 256) (b := 15) _ _ fun n a => ?_
  exact (Ref.v71_at V n (fun p => by rw [e]; exact F.score n p) a).trans
    ((congrArg (fun A : Args => A.action n a) e).trans (Chain.result_actions m ρ c n a).symm)

/-- Arguments agreeing buffer by buffer are equal. -/
theorem same_args (V : Valuation Cert.ReferenceIdeal.τ Cert.ReferenceIdeal.sig (Elt Ideal))
    (h0 : V (Proc.devRef .tc Cert.ReferenceIdeal.main_arg0) = m ((c.tc : Thread Cert.KernelIdeal.nD Cert.KernelIdeal.τ).loc Cert.KernelIdeal.main_arg0))
    (h1 : V (Proc.devRef .tc Cert.ReferenceIdeal.main_arg1) = m ((c.tc : Thread Cert.KernelIdeal.nD Cert.KernelIdeal.τ).loc Cert.KernelIdeal.main_arg1))
    (h2 : V (Proc.devRef .tc Cert.ReferenceIdeal.main_arg2) = m ((c.tc : Thread Cert.KernelIdeal.nD Cert.KernelIdeal.τ).loc Cert.KernelIdeal.main_arg2))
    (h3 : V (Proc.devRef .tc Cert.ReferenceIdeal.main_arg3) = m ((c.tc : Thread Cert.KernelIdeal.nD Cert.KernelIdeal.τ).loc Cert.KernelIdeal.main_arg3))
    (h4 : V (Proc.devRef .tc Cert.ReferenceIdeal.main_arg4) = m ((c.tc : Thread Cert.KernelIdeal.nD Cert.KernelIdeal.τ).loc Cert.KernelIdeal.main_arg4))
    (h5 : V (Proc.devRef .tc Cert.ReferenceIdeal.main_arg5) = m ((c.tc : Thread Cert.KernelIdeal.nD Cert.KernelIdeal.τ).loc Cert.KernelIdeal.main_arg5))
    (h6 : V (Proc.devRef .tc Cert.ReferenceIdeal.main_arg6) = m ((c.tc : Thread Cert.KernelIdeal.nD Cert.KernelIdeal.τ).loc Cert.KernelIdeal.main_arg6))
    (h7 : V (Proc.devRef .tc Cert.ReferenceIdeal.main_arg7) = m ((c.tc : Thread Cert.KernelIdeal.nD Cert.KernelIdeal.τ).loc Cert.KernelIdeal.main_arg7))
    (h8 : V (Proc.devRef .tc Cert.ReferenceIdeal.main_arg8) = m ((c.tc : Thread Cert.KernelIdeal.nD Cert.KernelIdeal.τ).loc Cert.KernelIdeal.main_arg8)) :
    Ref.args V = Chain.args m c := by
  refine Args.ext ?_ ?_ ?_ ?_ ?_ ?_ ?_ ?_ ?_
  · funext n i j k; exact congrFun h0 (ix4 n i j k)
  · funext d k; exact congrFun h1 (ix2 d k)
  · funext d; exact congrFun h2 (ix1 d)
  · funext d k; exact congrFun h3 (ix2 d k)
  · funext d; exact congrFun h4 (ix1 d)
  · funext d k; exact congrFun h5 (ix2 d k)
  · funext d; exact congrFun h6 (ix1 d)
  · funext d k; exact congrFun h7 (ix2 d k)
  · funext d; exact congrFun h8 (ix1 d)

end

/-- The kernel and the reference, over the extended reals: both run, and on finite arguments end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  have E (c : Dev Cert.KernelIdeal.nD) : Ref.args (StableHlo.launchContents m' c) = Chain.args m c := by
    obtain ⟨h0, h1, h2, h3, h4, h5, h6, h7, h8⟩ := hagree c
    exact same_args m c _ h0 h1 h2 h3 h4 h5 h6 h7 h8
  refine ⟨fun c => Cert.KernelIdeal.Gen.W7 m g c (Proc.devRef .tc Cert.KernelIdeal.main_v15),
    fun c => Cert.KernelIdeal.Gen.W7 m g c (Proc.devRef .tc Cert.KernelIdeal.main_v14_0), KernelRun.run m g, ?_⟩
  exact θ_run_mono (RefRun.run m' g') fun r h c =>
    ⟨(h c).1.trans (same_chosen m g c _ (finite_args m hpre c) (E c)),
      (h c).2.1.trans (same_actions m g c _ (finite_args m hpre c) (E c)), (h c).2.2⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All the claims together. -/
theorem claim : Cert.Claim := ⟨Cert.Kernel.Gen.facts, Cert.KernelIdeal.Gen.facts, Cert.ReferenceIdeal.Gen.facts, Cert.Pre_finite.Gen.facts,
  frame_p, frame_pi, frame_pi_pre, frame_ri, frame_ri_pre, preserves, algebraic⟩

end Cert.Proof

end
